-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_6) = v0 c
          ∧ r.2.mem ((c.tc : Thread Cert.ReferenceIdeal.nD Cert.ReferenceIdeal.τ).loc Cert.ReferenceIdeal.main_v4_8) = v1 c
          ∧ r.2.mem ((c.tc : Thread Cert.ReferenceIdeal.nD Cert.ReferenceIdeal.τ).loc Cert.ReferenceIdeal.main_v4_9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S2x1024x1024 : Shape := ⟨3, ![2, 1024, 1024]⟩
abbrev S8x256x1024 : Shape := ⟨3, ![8, 256, 1024]⟩
abbrev S8x256 : Shape := ⟨2, ![8, 256]⟩
abbrev S8x1024x256 : Shape := ⟨3, ![8, 1024, 256]⟩
abbrev S8x1024 : Shape := ⟨2, ![8, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S8x256 : S_.BroadcastsInDim S8x256 (![] : Fin 0 → Fin S8x256.rank)
  reducesTo_S8x256_S_d0_1 : S8x256.ReducesTo [0, 1] S_
  bcast_S_S8x1024x256 : S_.BroadcastsInDim S8x1024x256 (![] : Fin 0 → Fin S8x1024x256.rank)
  reducesTo_S8x1024x256_S_d0_1_2 : S8x1024x256.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v4 : FVec F S8x1024x256 .f32) (main_v14 : IVec S_ 1) (main_v15 : FVec F S8x1024x256 .f32) (main_v16 : FVec F S8x1024x256 .f32) : IVec S_ 1 :=
  let main_v17 : IVec S8x1024x256 1 := cmpf .olt main_v15 main_v16
  let main_c_5 : IVec S_ 1 := constantI S_ 1 1#1
  let main_v18 : IVec S_ 1 := (fun x v => Host.reduce IntOp.andi x v reducesTo_S8x1024x256_S_d0_1_2 h_S_) main_v17 main_c_5
  let main_v19 : IVec S_ 1 := andi main_v14 main_v18
  let main_v20 : FVec F S8x1024 .f32 := Host.absf main_arg4
  let main_cst_6 : FVec F S_ .f32 := constant S_ .f32 0x7F800000#32
  let main_v21 : FVec F S8x1024 .f32 := broadcastInDim S8x1024 ![] bcast_S_S8x1024 main_cst_6
  let main_v22 : IVec S8x1024 1 := cmpf .olt main_v20 main_v21
  let main_c_7 : IVec S_ 1 := constantI S_ 1 1#1
  let main_v23 : IVec S_ 1 := (fun x v => Host.reduce IntOp.andi x v reducesTo_S8x1024_S_d0_1 h_S_) main_v22 main_c_7
  let main_v24 : IVec S_ 1 := andi main_v19 main_v23
  let main_v25 : FVec F S8x1024x256 .f32 := Host.absf main_v4
  let main_cst_8 : FVec F S_ .f32 := constant S_ .f32 0x7F800000#32
  let main_v26 : FVec F S8x1024x256 .f32 := broadcastInDim S8x1024x256 ![] bcast_S_S8x1024x256 main_cst_8
  let main_v27 : IVec S8x1024x256 1 := cmpf .olt main_v25 main_v26
  let main_c_9 : IVec S_ 1 := constantI S_ 1 1#1
  let main_v28 : IVec S_ 1 := (fun x v => Host.reduce IntOp.andi x v reducesTo_S8x1024x256_S_d0_1_2 h_S_) main_v27 main_c_9
  let main_v29 : IVec S_ 1 := andi main_v24 main_v28
  main_v29

def fn {F : FTy → Type} [FloatOps F] (main_arg0 : FVec F S2x1024x1024 .f32) (main_arg1 : FVec F S8x256x1024 .f32) (main_arg2 : FVec F S8x256 .f32) (main_arg3 : FVec F S8x1024x256 .f32) (main_arg4 : FVec F S8x1024 .f32) (main_arg5 : IVec S8x1024x256 32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S8x1024x256 .f32 := bitcastToFloat .f32 main_arg5
  let main_v5 : FVec F S8x256x1024 .f32 := Host.absf main_arg1
  let main_cst_0 : FVec F S_ .f32 := constant S_ .f32 0x7F800000#32
  let main_v6 : FVec F S8x256x1024 .f32 := broadcastInDim S8x256x1024 ![] bcast_S_S8x256x1024 main_cst_0
  let main_v7 : IVec S8x256x1024 1 := cmpf .olt main_v5 main_v6
  let main_c_1 : IVec S_ 1 := constantI S_ 1 1#1
  let main_v8 : IVec S_ 1 := (fun x v => Host.reduce IntOp.andi x v reducesTo_S8x256x1024_S_d0_1_2 h_S_) main_v7 main_c_1
  let main_v9 : IVec S_ 1 := andi main_v3 main_v8
  let main_v10 : FVec F S8x256 .f32 := Host.absf main_arg2
  let main_cst_2 : FVec F S_ .f32 := constant S_ .f32 0x7F800000#32
  let main_v11 : FVec F S8x256 .f32 := broadcastInDim S8x256 ![] bcast_S_S8x256 main_cst_2
  let main_v12 : IVec S8x256 1 := cmpf .olt main_v10 main_v11
  let main_c_3 : IVec S_ 1 := constantI S_ 1 1#1
  let main_v13 : IVec S_ 1 := (fun x v => Host.reduce IntOp.andi x v reducesTo_S8x256_S_d0_1 h_S_) main_v12 main_c_3
  let main_v14 : IVec S_ 1 := andi main_v9 main_v13
  let main_v15 : FVec F S8x1024x256 .f32 := Host.absf main_arg3
  let main_cst_4 : FVec F S_ .f32 := constant S_ .f32 0x7F800000#32
  let main_v16 : FVec F S8x1024x256 .f32 := broadcastInDim S8x1024x256 ![] bcast_S_S8x1024x256 main_cst_4
  fn_part1 (F := F) main_arg4 main_v4 main_v14 main_v15 main_v16
-- ==== Kernel.lean ====
abbrev S2x1024x1024 : Shape := ⟨3, ![2, 1024, 1024]⟩
abbrev S8x256x1024 : Shape := ⟨3, ![8, 256, 1024]⟩
abbrev S8x256 : Shape := ⟨2, ![8, 256]⟩
abbrev S8x1024x256 : Shape := ⟨3, ![8, 1024, 256]⟩
abbrev S8x1024 : Shape := ⟨2, ![8, 1024]⟩
abbrev S2048x1024 : Shape := ⟨2, ![2048, 1024]⟩
abbrev S8x1x256 : Shape := ⟨3, ![8, 1, 256]⟩
abbrev S8x1x1024 : Shape := ⟨3, ![8, 1, 1024]⟩
abbrev S_ : Shape := ⟨0, ![]⟩
abbrev S8x1024x1024 : Shape := ⟨3, ![8, 1024, 1024]⟩
abbrev S8x2x1024x1 : Shape := ⟨4, ![8, 2, 1024, 1]⟩
abbrev S8x1x1 : Shape := ⟨3, ![8, 1, 1]⟩
abbrev S1x256x1024 : Shape := ⟨3, ![1, 256, 1024]⟩
abbrev S1x1x256 : Shape := ⟨3, ![1, 1, 256]⟩
abbrev S1x1024x256 : Shape := ⟨3, ![1, 1024, 256]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x1x1024x1 : Shape := ⟨4, ![1, 1, 1024, 1]⟩
abbrev S1x1x1 : Shape := ⟨3, ![1, 1, 1]⟩
abbrev S1 : Shape := ⟨1, ![1]⟩
abbrev S1024x256 : Shape := ⟨2, ![1024, 256]⟩
abbrev S1x1024 : Shape := ⟨2, ![1, 1024]⟩
abbrev S1024 : Shape := ⟨1, ![1024]⟩
abbrev S1024x1 : Shape := ⟨2, ![1024, 1]⟩
abbrev S256x1024 : Shape := ⟨2, ![256, 1024]⟩
abbrev S1x256 : Shape := ⟨2, ![1, 256]⟩
abbrev S8x2x1024 : Shape := ⟨3, ![8, 2, 1024]⟩
abbrev S8 : Shape := ⟨1, ![8]⟩

abbrev nBuf : Space → Nat
  | .hbm => 59
  | .vmem => 20
  | .smem => 3
  | _ => 0

abbrev bufTy : (tb : Table) → Fin (tcTables nBuf tb) → BufTy
  | .hbm, ⟨0, _⟩ => ⟨S2x1024x1024, .f32⟩
  | .hbm, ⟨1, _⟩ => ⟨S8x256x1024, .f32⟩
  | .hbm, ⟨2, _⟩ => ⟨S8x256, .f32⟩
  | .hbm, ⟨3, _⟩ => ⟨S8x1024x256, .f32⟩
  | .hbm, ⟨4, _⟩ => ⟨S8x1024, .f32⟩
  | .hbm, ⟨5, _⟩ => ⟨S8x1024x256, .i32⟩
  | .hbm, ⟨6, _⟩ => ⟨S8x1024x256, .f32⟩
  | .hbm, ⟨7, _⟩ => ⟨S2x1024x1024, .f32⟩
  | .hbm, ⟨8, _⟩ => ⟨S2048x1024, .f32⟩
  | .hbm, ⟨9, _⟩ => ⟨S8x1x256, .f32⟩
  | .hbm, ⟨10, _⟩ => ⟨S8x1x1024, .f32⟩
  | .hbm, ⟨11, _⟩ => ⟨S_, .i32⟩
  | .hbm, ⟨12, _⟩ => ⟨S8x1024x256, .i32⟩
  | .hbm, ⟨13, _⟩ => ⟨S8x1024x256, .i32⟩
  | .hbm, ⟨14, _⟩ => ⟨S_, .i32⟩
  | .hbm, ⟨15, _⟩ => ⟨S8x1024x256, .i32⟩
  | .hbm, ⟨16, _⟩ => ⟨S8x1024x256, .i32⟩
  | .hbm, ⟨17, _⟩ => ⟨S_, .i32⟩
  | .hbm, ⟨18, _⟩ => ⟨S8x1024x256, .i32⟩
  | .hbm, ⟨19, _⟩ => ⟨S8x1024x256, .i32⟩
  | .hbm, ⟨20, _⟩ => ⟨S8x1024x256, .i8⟩
  | .hbm, ⟨21, _⟩ => ⟨S_, .i32⟩
  | .hbm, ⟨22, _⟩ => ⟨S8x1024x256, .i32⟩
  | .hbm, ⟨23, _⟩ => ⟨S8x1024x256, .i32⟩
  | .hbm, ⟨24, _⟩ => ⟨S_, .i32⟩
  | .hbm, ⟨25, _⟩ => ⟨S8x1024x256, .i32⟩
  | .hbm, ⟨26, _⟩ => ⟨S8x1024x256, .i32⟩
  | .hbm, ⟨27, _⟩ => ⟨S_, .i32⟩
  | .hbm, ⟨28, _⟩ => ⟨S8x1024x256, .i32⟩
  | .hbm, ⟨29, _⟩ => ⟨S8x1024x256, .i32⟩
  | .hbm, ⟨30, _⟩ => ⟨S8x1024x256, .i8⟩
  | .hbm, ⟨31, _⟩ => ⟨S_, .i32⟩
  | .hbm, ⟨32, _⟩ => ⟨S8x1024x256, .i32⟩
  | .hbm, ⟨33, _⟩ => ⟨S8x1024x256, .i32⟩
  | .hbm, ⟨34, _⟩ => ⟨S_, .i32⟩
  | .hbm, ⟨35, _⟩ => ⟨S8x1024x256, .i32⟩
  | .hbm, ⟨36, _⟩ => ⟨S8x1024x256, .i32⟩
  | .hbm, ⟨37, _⟩ => ⟨S_, .i32⟩
  | .hbm, ⟨38, _⟩ => ⟨S8x1024x256, .i32⟩
  | .hbm, ⟨39, _⟩ => ⟨S8x1024x256, .i32⟩
  | .hbm, ⟨40, _⟩ => ⟨S8x1024x256, .i8⟩
  | .hbm, ⟨41, _⟩ => ⟨S_, .i32⟩
  | .hbm, ⟨42, _⟩ => ⟨S8x1024x256, .i32⟩
  | .hbm, ⟨43, _⟩ => ⟨S8x1024x256, .i32⟩
  | .hbm, ⟨44, _⟩ => ⟨S_, .i32⟩
  | .hbm, ⟨45, _⟩ => ⟨S8x1024x256, .i32⟩
  | .hbm, ⟨46, _⟩ => ⟨S8x1024x256, .i32⟩
  | .hbm, ⟨47, _⟩ => ⟨S_, .i32⟩
  | .hbm, ⟨48, _⟩ => ⟨S8x1024x256, .i32⟩
  | .hbm, ⟨49, _⟩ => ⟨S8x1024x256, .i32⟩
  | .hbm, ⟨50, _⟩ => ⟨S8x1024x256, .i8⟩
  | .hbm, ⟨51, _⟩ => ⟨S8x1024x1024, .i8⟩
  | .hbm, ⟨52, _⟩ => ⟨S2048x1024, .f32⟩
  | .hbm, ⟨53, _⟩ => ⟨S8x2x1024x1, .i32⟩
  | .hbm, ⟨54, _⟩ => ⟨S8x1x1, .f32⟩
  | .hbm, ⟨55, _⟩ => ⟨S2x1024x1024, .f32⟩
  | .hbm, ⟨56, _⟩ => ⟨S2x1024x1024, .f32⟩
  | .hbm, ⟨57, _⟩ => ⟨S8x2x1024, .i32⟩
  | .hbm, ⟨58, _⟩ => ⟨S8, .f32⟩
  | .local _ .vmem, ⟨0, _⟩ => ⟨S2048x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x1x256, .f32⟩
  | .local _ .vmem, ⟨4, _⟩ => ⟨S1x1x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x1024, .i8⟩
  | .local _ .vmem, ⟨12, _⟩ => ⟨S1x1024x1024, .i8⟩
  | .local _ .vmem, ⟨13, _⟩ => ⟨S1024x1024, .f32⟩
  | .local _ .vmem, ⟨14, _⟩ => ⟨S1024x1024, .f32⟩
  | .local _ .vmem, ⟨15, _⟩ => ⟨S1x1x1024x1, .i32⟩
  | .local _ .vmem, ⟨16, _⟩ => ⟨S1x1x1024x1, .i32⟩
  | .local _ .vmem, ⟨17, _⟩ => ⟨S2048x1024, .f32⟩
  | .local _ .vmem, ⟨18, _⟩ => ⟨S1024x256, .f32⟩
  | .local _ .vmem, ⟨19, _⟩ => ⟨S1x1024, .f32⟩
  | .local _ .smem, ⟨0, _⟩ => ⟨S1x1x1, .f32⟩
  | .local _ .smem, ⟨1, _⟩ => ⟨S1x1x1, .f32⟩
  | .local _ .smem, ⟨2, _⟩ => ⟨S1, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_c_9 : Ref sig .tc := ⟨.hbm, 44, rfl⟩
abbrev main_v28 : Ref sig .tc := ⟨.hbm, 45, rfl⟩
abbrev main_v29 : Ref sig .tc := ⟨.hbm, 46, rfl⟩
abbrev main_c_10 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v34_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch2 : Ref sig .tc := ⟨.vmem, 18, rfl⟩
abbrev cc0_scratch3 : Ref sig .tc := ⟨.vmem, 19, rfl⟩
abbrev cc0_stg9_0 : Ref sig .tc := ⟨.smem, 0, rfl⟩
abbrev cc0_stg9_1 : Ref sig .tc := ⟨.smem, 1, rfl⟩
abbrev cc0_scratch1 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg1 : BitVec 32 := BitVec.ofNat 32 (i 1).val
  let c1024_i32 : BitVec 32 := 1024#32
  let v8 : BitVec 32 := Scalar.muli arg1 c1024_i32
  let v9 : Index := Scalar.indexCast v8
  let c0 : Index := 0#32
  ![v9.toNat, 0]
def k0_cond6 (i : grid0.Coords) : BitVec 1 :=
  let arg0 : BitVec 32 := BitVec.ofNat 32 (i 0).val
  let c7_i32 : BitVec 32 := 7#32
  let v107 : BitVec 1 := Scalar.cmpi .eq arg0 c7_i32
  let v108 : BitVec 32 := Scalar.extui v107
  let c0_i32_47 : BitVec 32 := 0#32
  let v109 : BitVec 1 := Scalar.cmpi .ne v108 c0_i32_47
  v109

def k0_off2 (i : grid0.Coords) : Fin 2 → Nat :=
  let arg1 : BitVec 32 := BitVec.ofNat 32 (i 1).val
  let c1024_i32 : BitVec 32 := 1024#32
  let v8 : BitVec 32 := Scalar.muli arg1 c1024_i32
  let v110 : Index := Scalar.indexCast v8
  let c0_48 : Index := 0#32
  ![v110.toNat, 0]
def k0_cond5 (i : grid0.Coords) : BitVec 1 :=
  let arg1 : BitVec 32 := BitVec.ofNat 32 (i 1).val
  let c1_i32 : BitVec 32 := 1#32
  let v90 : BitVec 1 := Scalar.cmpi .eq arg1 c1_i32
  let v91 : BitVec 32 := Scalar.extui v90
  let c0_i32_38 : BitVec 32 := 0#32
  let v92 : BitVec 1 := Scalar.cmpi .ne v91 c0_i32_38
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .smem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2x1024x1024 : Shape := ⟨3, ![2, 1024, 1024]⟩
abbrev S8x256x1024 : Shape := ⟨3, ![8, 256, 1024]⟩
abbrev S8x256 : Shape := ⟨2, ![8, 256]⟩
abbrev S8x1024x256 : Shape := ⟨3, ![8, 1024, 256]⟩
abbrev S8x1024 : Shape := ⟨2, ![8, 1024]⟩
abbrev S_ : Shape := ⟨0, ![]⟩
abbrev S8x2x1024 : Shape := ⟨3, ![8, 2, 1024]⟩
abbrev S8 : Shape := ⟨1, ![8]⟩
abbrev S1x256x1024 : Shape := ⟨3, ![1, 256, 1024]⟩
abbrev S256x1024 : Shape := ⟨2, ![256, 1024]⟩
abbrev S1x256 : Shape := ⟨2, ![1, 256]⟩
abbrev S256 : Shape := ⟨1, ![256]⟩
abbrev S1x1024x256 : Shape := ⟨3, ![1, 1024, 256]⟩
abbrev S1024x256 : Shape := ⟨2, ![1024, 256]⟩
abbrev S1x1024 : Shape := ⟨2, ![1, 1024]⟩
abbrev S1024 : Shape := ⟨1, ![1024]⟩
abbrev S2x1024x256 : Shape := ⟨3, ![2, 1024, 256]⟩
abbrev S2x256x1024 : Shape := ⟨3, ![2, 256, 1024]⟩
abbrev S1x256x1 : Shape := ⟨3, ![1, 256, 1]⟩
abbrev S2048x256 : Shape := ⟨2, ![2048, 256]⟩
abbrev S2048 : Shape := ⟨1, ![2048]⟩
abbrev S2048x1 : Shape := ⟨2, ![2048, 1]⟩
abbrev S1024x1 : Shape := ⟨2, ![1024, 1]⟩
abbrev S2048x1024 : Shape := ⟨2, ![2048, 1024]⟩
abbrev S1 : Shape := ⟨1, ![1]⟩
abbrev S1x1 : Shape := ⟨2, ![1, 1]⟩
abbrev S1x1024x1 : Shape := ⟨3, ![1, 1024, 1]⟩
abbrev S2x1024 : Shape := ⟨2, ![2, 1024]⟩
abbrev S1x2x1024 : Shape := ⟨3, ![1, 2, 1024]⟩

abbrev nBuf : Space → Nat
  | .hbm => 152
  | .vmem => 0
  | .smem => 0
  | _ => 0

abbrev hbmTy0_0 (i : Nat) : BufTy := match i % 128 with
  | 0 => ⟨S2x1024x1024, .f32⟩
  | 1 => ⟨S8x256x1024, .f32⟩
  | 2 => ⟨S8x256, .f32⟩
  | 3 => ⟨S8x1024x256, .f32⟩
  | 4 => ⟨S8x1024, .f32⟩
  | 5 => ⟨S8x1024x256, .i32⟩
  | 6 => ⟨S8x1024x256, .f32⟩
  | 7 => ⟨S_, .f32⟩
  | 8 => ⟨S2x1024x1024, .f32⟩
  | 9 => ⟨S_, .i32⟩
  | 10 => ⟨S8x2x1024, .i32⟩
  | 11 => ⟨S_, .f32⟩
  | 12 => ⟨S8, .f32⟩
  | 13 => ⟨S_, .i32⟩
  | 14 => ⟨S8x256x1024, .f32⟩
  | 15 => ⟨S8x256, .f32⟩
  | 16 => ⟨S8x1024x256, .f32⟩
  | 17 => ⟨S8x1024, .f32⟩
  | 18 => ⟨S8x1024x256, .f32⟩
  | 19 => ⟨S_, .i32⟩
  | 20 => ⟨S2x1024x1024, .f32⟩
  | 21 => ⟨S2x1024x1024, .f32⟩
  | 22 => ⟨S8x2x1024, .i32⟩
  | 23 => ⟨S8, .f32⟩
  | 24 => ⟨S_, .i32⟩
  | 25 => ⟨S_, .i1⟩
  | 26 => ⟨S_, .i32⟩
  | 27 => ⟨S_, .i32⟩
  | 28 => ⟨S1x256x1024, .f32⟩
  | 29 => ⟨S256x1024, .f32⟩
  | 30 => ⟨S_, .i32⟩
  | 31 => ⟨S1x256, .f32⟩
  | 32 => ⟨S256, .f32⟩
  | 33 => ⟨S_, .i32⟩
  | 34 => ⟨S_, .i32⟩
  | 35 => ⟨S1x1024x256, .f32⟩
  | 36 => ⟨S1024x256, .f32⟩
  | 37 => ⟨S_, .i32⟩
  | 38 => ⟨S1x1024, .f32⟩
  | 39 => ⟨S1024, .f32⟩
  | 40 => ⟨S_, .i32⟩
  | 41 => ⟨S_, .i32⟩
  | 42 => ⟨S1x1024x256, .f32⟩
  | 43 => ⟨S1024x256, .f32⟩
  | 44 => ⟨S2x1024x256, .f32⟩
  | 45 => ⟨S2x256x1024, .f32⟩
  | 46 => ⟨S1x256x1, .f32⟩
  | 47 => ⟨S2x256x1024, .f32⟩
  | 48 => ⟨S2x256x1024, .f32⟩
  | 49 => ⟨S2x1024x256, .f32⟩
  | 50 => ⟨S2048x256, .f32⟩
  | 51 => ⟨S2048x256, .f32⟩
  | 52 => ⟨S_, .f32⟩
  | 53 => ⟨S2048, .f32⟩
  | 54 => ⟨S2048x1, .f32⟩
  | 55 => ⟨S2048x1, .f32⟩
  | 56 => ⟨S_, .f32⟩
  | 57 => ⟨S2048x1, .f32⟩
  | 58 => ⟨S2048x1, .f32⟩
  | 59 => ⟨S2048x256, .f32⟩
  | 60 => ⟨S2048x256, .f32⟩
  | 61 => ⟨S1024x256, .f32⟩
  | 62 => ⟨S_, .f32⟩
  | 63 => ⟨S1024, .f32⟩
  | 64 => ⟨S1024x1, .f32⟩
  | 65 => ⟨S1024x1, .f32⟩
  | 66 => ⟨S_, .f32⟩
  | 67 => ⟨S1024x1, .f32⟩
  | 68 => ⟨S1024x1, .f32⟩
  | 69 => ⟨S1024x256, .f32⟩
  | 70 => ⟨S1024x256, .f32⟩
  | 71 => ⟨S2048x256, .f32⟩
  | 72 => ⟨S_, .f32⟩
  | 73 => ⟨S2048, .f32⟩
  | 74 => ⟨S2048x1, .f32⟩
  | 75 => ⟨S256x1024, .f32⟩
  | 76 => ⟨S2048x1024, .f32⟩
  | 77 => ⟨S_, .f32⟩
  | 78 => ⟨S2048x1024, .f32⟩
  | 79 => ⟨S2048x1024, .f32⟩
  | 80 => ⟨S2048x1024, .f32⟩
  | 81 => ⟨S2048x1024, .f32⟩
  | 82 => ⟨S1024x256, .f32⟩
  | 83 => ⟨S_, .f32⟩
  | 84 => ⟨S1024, .f32⟩
  | 85 => ⟨S1x1024, .f32⟩
  | 86 => ⟨S2048x1024, .f32⟩
  | 87 => ⟨S2048x1024, .f32⟩
  | 88 => ⟨S2048x1024, .f32⟩
  | 89 => ⟨S2048x1024, .i32⟩
  | 90 => ⟨S_, .f32⟩
  | 91 => ⟨S_, .i32⟩
  | 92 => ⟨S2048, .f32⟩
  | 93 => ⟨S2048, .i32⟩
  | 94 => ⟨S_, .i32⟩
  | 95 => ⟨S2048, .i32⟩
  | 96 => ⟨S2048, .i1⟩
  | 97 => ⟨S_, .i32⟩
  | 98 => ⟨S2048, .i32⟩
  | 99 => ⟨S2048, .i32⟩
  | 100 => ⟨S2048, .i32⟩
  | 101 => ⟨S2048x1, .i32⟩
  | 102 => ⟨S1, .i32⟩
  | 103 => ⟨S_, .i32⟩
  | 104 => ⟨S2048x1, .i32⟩
  | 105 => ⟨S2048x1, .i1⟩
  | 106 => ⟨S1x1, .i32⟩
  | 107 => ⟨S2048x1, .i32⟩
  | 108 => ⟨S2048x1, .i1⟩
  | 109 => ⟨S2048x1, .i1⟩
  | 110 => ⟨S_, .i1⟩
  | 111 => ⟨S2048, .i1⟩
  | 112 => ⟨S2048x256, .f32⟩
  | 113 => ⟨S2048x256, .i1⟩
  | 114 => ⟨S_, .f32⟩
  | 115 => ⟨S2048x256, .f32⟩
  | 116 => ⟨S2048x256, .f32⟩
  | 117 => ⟨S2x1024x256, .f32⟩
  | 118 => ⟨S2x256x1024, .f32⟩
  | 119 => ⟨S2x256x1024, .f32⟩
  | 120 => ⟨S2x256x1024, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S2x256x1024, .f32⟩
  | _ => ⟨S2x1024x1024, .f32⟩

abbrev hbmTy0_1 (i : Nat) : BufTy := match i % 128 with
  | 0 => ⟨S2x256x1024, .f32⟩
  | 1 => ⟨S_, .f32⟩
  | 2 => ⟨S_, .f32⟩
  | 3 => ⟨S_, .f32⟩
  | 4 => ⟨S_, .f32⟩
  | 5 => ⟨S_, .f32⟩
  | 6 => ⟨S2x256x1024, .f32⟩
  | 7 => ⟨S2x256x1024, .f32⟩
  | 8 => ⟨S2x1024x1024, .f32⟩
  | 9 => ⟨S2x1024x1024, .f32⟩
  | 10 => ⟨S1x1024x1, .f32⟩
  | 11 => ⟨S2x1024x1024, .f32⟩
  | 12 => ⟨S2x1024x1024, .f32⟩
  | 13 => ⟨S2x1024, .i32⟩
  | 14 => ⟨S2x1024x1024, .f32⟩
  | 15 => ⟨S2x1024x1024, .f32⟩
  | 16 => ⟨S1x2x1024, .i32⟩
  | 17 => ⟨S_, .i32⟩
  | 18 => ⟨S_, .i32⟩
  | 19 => ⟨S8x2x1024, .i32⟩
  | 20 => ⟨S1, .f32⟩
  | 21 => ⟨S8, .f32⟩
  | 22 => ⟨S_, .i32⟩
  | 23 => ⟨S_, .i32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_c_1 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v4_8 : Ref sig .tc := ⟨.hbm, 22, rfl⟩
abbrev main_v4_9 : Ref sig .tc := ⟨.hbm, 23, rfl⟩
abbrev main_while0c_c_11 : Ref sig .tc := ⟨.hbm, 24, rfl⟩
abbrev main_while0c_v5 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_v0 : Ref sig .tc := ⟨.hbm, 28, rfl⟩
abbrev main_while0b_v5 : Ref sig .tc := ⟨.hbm, 29, rfl⟩
abbrev main_while0b_call1_c : Ref sig .tc := ⟨.hbm, 30, rfl⟩
abbrev main_while0b_call1_v0 : Ref sig .tc := ⟨.hbm, 31, rfl⟩
abbrev main_while0b_v6 : Ref sig .tc := ⟨.hbm, 32, rfl⟩
abbrev main_while0b_call2_c : Ref sig .tc := ⟨.hbm, 33, rfl⟩
abbrev main_while0b_call2_c_0 : Ref sig .tc := ⟨.hbm, 34, rfl⟩
abbrev main_while0b_call2_v0 : Ref sig .tc := ⟨.hbm, 35, rfl⟩
abbrev main_while0b_v7 : Ref sig .tc := ⟨.hbm, 36, rfl⟩
abbrev main_while0b_call3_c : Ref sig .tc := ⟨.hbm, 37, rfl⟩
abbrev main_while0b_call3_v0 : Ref sig .tc := ⟨.hbm, 38, rfl⟩
abbrev main_while0b_v8 : Ref sig .tc := ⟨.hbm, 39, rfl⟩
abbrev main_while0b_call4_c : Ref sig .tc := ⟨.hbm, 40, rfl⟩
abbrev main_while0b_call4_c_0 : Ref sig .tc := ⟨.hbm, 41, rfl⟩
abbrev main_while0b_call4_v0 : Ref sig .tc := ⟨.hbm, 42, rfl⟩
abbrev main_while0b_v9 : Ref sig .tc := ⟨.hbm, 43, rfl⟩
abbrev main_while0b_v10 : Ref sig .tc := ⟨.hbm, 44, rfl⟩
abbrev main_while0b_v11 : Ref sig .tc := ⟨.hbm, 45, rfl⟩
abbrev main_while0b_v12 : Ref sig .tc := ⟨.hbm, 46, rfl⟩
abbrev main_while0b_v13 : Ref sig .tc := ⟨.hbm, 47, rfl⟩
abbrev main_while0b_v14 : Ref sig .tc := ⟨.hbm, 48, rfl⟩
abbrev main_while0b_v15 : Ref sig .tc := ⟨.hbm, 49, rfl⟩
abbrev main_while0b_v16 : Ref sig .tc := ⟨.hbm, 50, rfl⟩
abbrev main_while0b_call5_v0 : Ref sig .tc := ⟨.hbm, 51, rfl⟩
abbrev main_while0b_call5_cst : Ref sig .tc := ⟨.hbm, 52, rfl⟩
abbrev main_while0b_call5_v1 : Ref sig .tc := ⟨.hbm, 53, rfl⟩
abbrev main_while0b_call5_v2 : Ref sig .tc := ⟨.hbm, 54, rfl⟩
abbrev main_while0b_v17 : Ref sig .tc := ⟨.hbm, 55, rfl⟩
abbrev main_while0b_cst_11 : Ref sig .tc := ⟨.hbm, 56, rfl⟩
abbrev main_while0b_v18 : Ref sig .tc := ⟨.hbm, 57, rfl⟩
abbrev main_while0b_v19 : Ref sig .tc := ⟨.hbm, 58, rfl⟩
abbrev main_while0b_v20 : Ref sig .tc := ⟨.hbm, 59, rfl⟩
abbrev main_while0b_v21 : Ref sig .tc := ⟨.hbm, 60, rfl⟩
abbrev main_while0b_call6_v0 : Ref sig .tc := ⟨.hbm, 61, rfl⟩
abbrev main_while0b_call6_cst : Ref sig .tc := ⟨.hbm, 62, rfl⟩
abbrev main_while0b_call6_v1 : Ref sig .tc := ⟨.hbm, 63, rfl⟩
abbrev main_while0b_call6_v2 : Ref sig .tc := ⟨.hbm, 64, rfl⟩
abbrev main_while0b_v22 : Ref sig .tc := ⟨.hbm, 65, rfl⟩
abbrev main_while0b_cst_12 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_cst_13 : Ref sig .tc := ⟨.hbm, 72, rfl⟩
abbrev main_while0b_v28 : Ref sig .tc := ⟨.hbm, 73, rfl⟩
abbrev main_while0b_v29 : Ref sig .tc := ⟨.hbm, 74, rfl⟩
abbrev main_while0b_v30 : Ref sig .tc := ⟨.hbm, 75, rfl⟩
abbrev main_while0b_v31 : Ref sig .tc := ⟨.hbm, 76, rfl⟩
abbrev main_while0b_cst_14 : Ref sig .tc := ⟨.hbm, 77, rfl⟩
abbrev main_while0b_v32 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_v36 : Ref sig .tc := ⟨.hbm, 82, rfl⟩
abbrev main_while0b_cst_15 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_call7_v0 : Ref sig .tc := ⟨.hbm, 89, rfl⟩
abbrev main_while0b_call7_cst : Ref sig .tc := ⟨.hbm, 90, rfl⟩
abbrev main_while0b_call7_c : Ref sig .tc := ⟨.hbm, 91, rfl⟩
abbrev main_while0b_call7_v1_0 : Ref sig .tc := ⟨.hbm, 92, rfl⟩
abbrev main_while0b_v42 : Ref sig .tc := ⟨.hbm, 93, rfl⟩
abbrev main_while0b_call8_c : Ref sig .tc := ⟨.hbm, 94, rfl⟩
abbrev main_while0b_call8_v0 : Ref sig .tc := ⟨.hbm, 95, rfl⟩
abbrev main_while0b_call8_v1 : Ref sig .tc := ⟨.hbm, 96, rfl⟩
abbrev main_while0b_call8_c_0 : Ref sig .tc := ⟨.hbm, 97, rfl⟩
abbrev main_while0b_call8_v2 : Ref sig .tc := ⟨.hbm, 98, rfl⟩
abbrev main_while0b_call8_v3 : Ref sig .tc := ⟨.hbm, 99, rfl⟩
abbrev main_while0b_call8_v4 : Ref sig .tc := ⟨.hbm, 100, rfl⟩
abbrev main_while0b_call8_v5 : Ref sig .tc := ⟨.hbm, 101, rfl⟩
abbrev main_while0b_call8_c_1 : Ref sig .tc := ⟨.hbm, 102, rfl⟩
abbrev main_while0b_call8_c_2 : Ref sig .tc := ⟨.hbm, 103, rfl⟩
abbrev main_while0b_call8_v6 : Ref sig .tc := ⟨.hbm, 104, rfl⟩
abbrev main_while0b_call8_v7 : Ref sig .tc := ⟨.hbm, 105, rfl⟩
abbrev main_while0b_call8_v8 : Ref sig .tc := ⟨.hbm, 106, rfl⟩
abbrev main_while0b_call8_v9 : Ref sig .tc := ⟨.hbm, 107, rfl⟩
abbrev main_while0b_call8_v10 : Ref sig .tc := ⟨.hbm, 108, rfl⟩
abbrev main_while0b_call8_v11 : Ref sig .tc := ⟨.hbm, 109, rfl⟩
abbrev main_while0b_call8_c_3 : Ref sig .tc := ⟨.hbm, 110, rfl⟩
abbrev main_while0b_call8_v12 : Ref sig .tc := ⟨.hbm, 111, rfl⟩
abbrev main_while0b_call8_v13 : Ref sig .tc := ⟨.hbm, 112, rfl⟩
abbrev main_while0b_call8_v14 : Ref sig .tc := ⟨.hbm, 113, rfl⟩
abbrev main_while0b_call8_cst : Ref sig .tc := ⟨.hbm, 114, rfl⟩
abbrev main_while0b_call8_v15 : Ref sig .tc := ⟨.hbm, 115, rfl⟩
abbrev main_while0b_v43 : Ref sig .tc := ⟨.hbm, 116, rfl⟩
abbrev main_while0b_v44 : Ref sig .tc := ⟨.hbm, 117, rfl⟩
abbrev main_while0b_v45 : Ref sig .tc := ⟨.hbm, 118, rfl⟩
abbrev main_while0b_v46 : Ref sig .tc := ⟨.hbm, 119, rfl⟩
abbrev main_while0b_v47 : Ref sig .tc := ⟨.hbm, 120, rfl⟩
abbrev main_while0b_cst_16 : Ref sig .tc := ⟨.hbm, 121, rfl⟩
abbrev main_while0b_v48 : Ref sig .tc := ⟨.hbm, 122, rfl⟩
abbrev main_while0b_cst_17 : Ref sig .tc := ⟨.hbm, 123, rfl⟩
abbrev main_while0b_v49 : Ref sig .tc := ⟨.hbm, 124, rfl⟩
abbrev main_while0b_cst_18 : Ref sig .tc := ⟨.hbm, 125, rfl⟩
abbrev main_while0b_v50 : Ref sig .tc := ⟨.hbm, 126, rfl⟩
abbrev main_while0b_v51 : Ref sig .tc := ⟨.hbm, 127, rfl⟩
abbrev main_while0b_v52 : Ref sig .tc := ⟨.hbm, 128, rfl⟩
abbrev main_while0b_cst_19 : Ref sig .tc := ⟨.hbm, 129, rfl⟩
abbrev main_while0b_v53 : Ref sig .tc := ⟨.hbm, 130, rfl⟩
abbrev main_while0b_cst_20 : Ref sig .tc := ⟨.hbm, 131, rfl⟩
abbrev main_while0b_v54 : Ref sig .tc := ⟨.hbm, 132, rfl⟩
abbrev main_while0b_v55 : Ref sig .tc := ⟨.hbm, 133, rfl⟩
abbrev main_while0b_v56 : Ref sig .tc := ⟨.hbm, 134, rfl⟩
abbrev main_while0b_v57 : Ref sig .tc := ⟨.hbm, 135, rfl⟩
abbrev main_while0b_v58 : Ref sig .tc := ⟨.hbm, 136, rfl⟩
abbrev main_while0b_v59 : Ref sig .tc := ⟨.hbm, 137, rfl⟩
abbrev main_while0b_v60 : Ref sig .tc := ⟨.hbm, 138, rfl⟩
abbrev main_while0b_v61 : Ref sig .tc := ⟨.hbm, 139, rfl⟩
abbrev main_while0b_v62 : Ref sig .tc := ⟨.hbm, 140, rfl⟩
abbrev main_while0b_v63 : Ref sig .tc := ⟨.hbm, 141, rfl⟩
abbrev main_while0b_v64 : Ref sig .tc := ⟨.hbm, 142, rfl⟩
abbrev main_while0b_v65 : Ref sig .tc := ⟨.hbm, 143, rfl⟩
abbrev main_while0b_call9_v0 : Ref sig .tc := ⟨.hbm, 144, rfl⟩
abbrev main_while0b_call9_c : Ref sig .tc := ⟨.hbm, 145, rfl⟩
abbrev main_while0b_call9_c_0 : Ref sig .tc := ⟨.hbm, 146, rfl⟩
abbrev main_while0b_v66 : Ref sig .tc := ⟨.hbm, 147, rfl⟩
abbrev main_while0b_call10_v0 : Ref sig .tc := ⟨.hbm, 148, rfl⟩
abbrev main_while0b_v67 : Ref sig .tc := ⟨.hbm, 149, rfl⟩
abbrev main_while0b_c_21 : Ref sig .tc := ⟨.hbm, 150, rfl⟩
abbrev main_while0b_v68 : Ref sig .tc := ⟨.hbm, 151, rfl⟩

abbrev nD : Nat := 1
abbrev τ : Topo := Topo.v7x

variable {F : FTy → Type} [FloatOps F]

abbrev main_while0_count : Scf.Loop 32 := ⟨0#32, 8#32, 1#32⟩
-- ==== Proof.Spec.lean ====
module

public import Idealize.ShloMosaic.PureOps.Ideal
public import Idealize.ShloMosaic.PureOps.Ideal.Laws

@[expose] public section
noncomputable section

/-!
# The residual quantiser as mathematics

One layer maps a residual row to a code vector `enc`, finds the codebook row whose unit vector is nearest to the unit
vector of the code (`code`, the first such row), and subtracts the projection of that row from the residual. The functions
below are over extended reals and speak of one row of 1024 entries at a time; they name no array and no tile.
-/

namespace Cert.Spec
open Idealize.ShloMosaic

/-- The parameters of one layer: input projection, its bias, output projection, its bias, codebook. -/
structure Layer where
  W : Fin 256 → Fin 1024 → EReal
  bi : Fin 256 → EReal
  Wo : Fin 1024 → Fin 256 → EReal
  bo : Fin 1024 → EReal
  C : Fin 1024 → Fin 256 → EReal

/-- The small number added to a norm before dividing by it. -/
def eps : EReal := Ideal.ofBits .f32 0x2B8CBCCC#32
/-- The factor two of the squared distance. -/
def two : EReal := Ideal.ofBits .f32 0x40000000#32
/-- The number of entries a loss averages over, `2048 * 256`. -/
def cnt : EReal := Ideal.ofBits .f32 0x49000000#32
/-- The weight of the commitment loss. -/
def quarter : EReal := Ideal.ofBits .f32 0x3E800000#32

/-- The indices at which `f` is least. -/
def least (f : Fin 1024 → EReal) : Finset (Fin 1024) := Finset.univ.filter fun k => ∀ j, f k ≤ f j

/-- A function on the positions is least somewhere. -/
theorem least_nonempty (f : Fin 1024 → EReal) : (least f).Nonempty := by
  obtain ⟨k, _, hk⟩ := Finset.exists_min_image Finset.univ f ⟨0, Finset.mem_univ _⟩
  exact ⟨k, Finset.mem_filter.2 ⟨Finset.mem_univ _, fun j => hk j (Finset.mem_univ _)⟩⟩

/-- The first index at which `f` is least. -/
def pick (f : Fin 1024 → EReal) : Fin 1024 := (least f).min' (least_nonempty f)

/-- No value is below the one at the pick. -/
theorem pick_le (f : Fin 1024 → EReal) (j : Fin 1024) : f (pick f) ≤ f j :=
  (Finset.mem_filter.1 ((least f).min'_mem (least_nonempty f))).2 j

/-- The pick is no later than any position at which the function is least. -/
theorem pick_first (f : Fin 1024 → EReal) (k : Fin 1024) (h : ∀ j, f k ≤ f j) : pick f ≤ k :=
  (least f).min'_le k (Finset.mem_filter.2 ⟨Finset.mem_univ _, h⟩)

/-- An index that is least, and no later than any other that is as small, is the pick. -/
theorem pick_eq (f : Fin 1024 → EReal) (k : Fin 1024) (h : ∀ j, f k ≤ f j) (h' : ∀ j, f j = f k → k ≤ j) : pick f = k :=
  le_antisymm (pick_first f k h) (h' _ (le_antisymm (pick_le f k) (h _)))

/-- The code vector of a residual row. -/
def enc (L : Layer) (r : Fin 1024 → EReal) (e : Fin 256) : EReal := (∑ d, r d * L.W e d) + L.bi e

/-- The squared length of a vector. -/
def sumsq (v : Fin 256 → EReal) : EReal := ∑ e, v e * v e

/-- A vector divided by its length plus `eps`. -/
def unit (v : Fin 256 → EReal) (e : Fin 256) : EReal := Ideal.div (v e) (Ideal.sqrt (sumsq v) + eps)

/-- The squared distance from the unit code vector to the unit codebook row `k`. -/
def dist (L : Layer) (z : Fin 256 → EReal) (k : Fin 1024) : EReal :=
  (sumsq (unit z) - two * ∑ e, unit z e * unit (L.C k) e) + sumsq (unit (L.C k))

/-- The codebook row chosen for a code vector. -/
def code (L : Layer) (z : Fin 256 → EReal) : Fin 1024 := pick (dist L z)

/-- The chosen codebook row itself. -/
def dec (L : Layer) (z : Fin 256 → EReal) (e : Fin 256) : EReal := L.C (code L z) e

/-- What the layer adds to the quantised row and takes from the residual. -/
def out (L : Layer) (z : Fin 256 → EReal) (d : Fin 1024) : EReal :=
  (∑ e, (z e + (dec L z e - z e)) * L.Wo d e) + L.bo d

/-- The squared error of a code vector against the chosen codebook row. -/
def err (L : Layer) (z : Fin 256 → EReal) : EReal := ∑ e, (z e - dec L z e) * (z e - dec L z e)

/-- The residual row before layer `q`. -/
def res (P : ℕ → Layer) (x : Fin 1024 → EReal) : ℕ → Fin 1024 → EReal
  | 0 => x
  | q + 1 => fun d => res P x q d - out (P q) (enc (P q) (res P x q)) d

/-- The code vector of layer `q`. -/
def code_vec (P : ℕ → Layer) (x : Fin 1024 → EReal) (q : ℕ) : Fin 256 → EReal := enc (P q) (res P x q)

/-- The quantised row before layer `q`. -/
def quant (P : ℕ → Layer) (x : Fin 1024 → EReal) : ℕ → Fin 1024 → EReal
  | 0 => fun _ => 0
  | q + 1 => fun d => quant P x q d + out (P q) (code_vec P x q) d

/-- The loss of layer `q`: the mean squared error, and a quarter of it again. -/
def loss (P : ℕ → Layer) (X : Fin 2048 → Fin 1024 → EReal) (q : ℕ) : EReal :=
  Ideal.div (∑ n, err (P q) (code_vec P (X n) q)) cnt * quarter + Ideal.div (∑ n, err (P q) (code_vec P (X n) q)) cnt

/-- The residual after one more layer. -/
theorem res_succ (P : ℕ → Layer) (x : Fin 1024 → EReal) (q : ℕ) :
    res P x (q + 1) = fun d => res P x q d - out (P q) (code_vec P x q) d := rfl

/-- The sum of the outputs after one more layer. -/
theorem quant_succ (P : ℕ → Layer) (x : Fin 1024 → EReal) (q : ℕ) :
    quant P x (q + 1) = fun d => quant P x q d + out (P q) (code_vec P x q) d := rfl

/-! ### Finite parameters: the quantised row is what the residual lost -/

/-- An extended real that is a real number. -/
def Fin_ (x : EReal) : Prop := ∃ r : ℝ, x = (r : EReal)

/-- A sum of two real numbers is real. -/
theorem Fin_.add {x y : EReal} (hx : Fin_ x) (hy : Fin_ y) : Fin_ (x + y) := by
  obtain ⟨a, rfl⟩ := hx; obtain ⟨b, rfl⟩ := hy; exact ⟨a + b, by norm_cast⟩

/-- A difference of two real numbers is real. -/
theorem Fin_.sub {x y : EReal} (hx : Fin_ x) (hy : Fin_ y) : Fin_ (x - y) := by
  obtain ⟨a, rfl⟩ := hx; obtain ⟨b, rfl⟩ := hy; exact ⟨a - b, by norm_cast⟩

/-- A product of two real numbers is real. -/
theorem Fin_.mul {x y : EReal} (hx : Fin_ x) (hy : Fin_ y) : Fin_ (x * y) := by
  obtain ⟨a, rfl⟩ := hx; obtain ⟨b, rfl⟩ := hy; exact ⟨a * b, by norm_cast⟩

/-- A finite sum of real numbers is real. -/
theorem Fin_.sum {ι : Type} [Fintype ι] {f : ι → EReal} (h : ∀ i, Fin_ (f i)) : Fin_ (∑ i, f i) := by
  choose g hg using h
  refine ⟨∑ i, g i, ?_⟩
  rw [Finset.sum_congr rfl fun i _ => hg i]
  classical
  refine Finset.induction_on (Finset.univ : Finset ι) (by simp) ?_
  intro a s ha ih
  rw [Finset.sum_insert ha, Finset.sum_insert ha, ih]; norm_cast

/-- A layer all of whose parameters are real numbers. -/
structure Layer.Finite (L : Layer) : Prop where
  W : ∀ e d, Fin_ (L.W e d)
  bi : ∀ e, Fin_ (L.bi e)
  Wo : ∀ d e, Fin_ (L.Wo d e)
  bo : ∀ d, Fin_ (L.bo d)
  C : ∀ k e, Fin_ (L.C k e)

/-- The encoding of a finite row by a finite layer is finite. -/
theorem enc_fin {L : Layer} (h : L.Finite) {r : Fin 1024 → EReal} (hr : ∀ d, Fin_ (r d)) (e : Fin 256) : Fin_ (enc L r e) :=
  (Fin_.sum fun d => (hr d).mul (h.W e d)).add (h.bi e)

/-- The output of a finite layer on a finite encoding is finite. -/
theorem out_fin {L : Layer} (h : L.Finite) {z : Fin 256 → EReal} (hz : ∀ e, Fin_ (z e)) (d : Fin 1024) : Fin_ (out L z d) :=
  (Fin_.sum fun e => ((hz e).add ((h.C _ e).sub (hz e))).mul (h.Wo d e)).add (h.bo d)

/-- The residuals of a finite row under finite layers are finite. -/
theorem res_fin {P : ℕ → Layer} (h : ∀ q, (P q).Finite) {x : Fin 1024 → EReal} (hx : ∀ d, Fin_ (x d)) :
    ∀ q d, Fin_ (res P x q d)
  | 0, d => hx d
  | q + 1, d => (res_fin h hx q d).sub (out_fin (h q) (enc_fin (h q) (res_fin h hx q)) d)

/-- With finite parameters the quantised row before layer `q` is the row minus its residual there. -/
theorem quant_eq {P : ℕ → Layer} (h : ∀ q, (P q).Finite) {x : Fin 1024 → EReal} (hx : ∀ d, Fin_ (x d)) :
    ∀ q d, quant P x q d = x d - res P x q d
  | 0, d => by
      obtain ⟨a, ha⟩ := hx d
      show (0 : EReal) = x d - x d
      rw [ha]; norm_cast; simp
  | q + 1, d => by
      rw [quant_succ, res_succ]
      show quant P x q d + out (P q) (code_vec P x q) d = x d - (res P x q d - out (P q) (code_vec P x q) d)
      rw [quant_eq h hx q d]
      obtain ⟨a, ha⟩ := hx d
      obtain ⟨b, hb⟩ := res_fin h hx q d
      obtain ⟨c, hc⟩ := out_fin (h q) (enc_fin (h q) (res_fin h hx q)) d
      have hc' : out (P q) (code_vec P x q) d = (c : EReal) := hc
      rw [ha, hb, hc']
      norm_cast; ring

/-! ### Squares of differences -/

/-- Extended reals subtract up to the sign. -/
theorem neg_sub_swap (a b : EReal) (h : ¬(a = ⊤ ∧ b = ⊤)) (h' : ¬(a = ⊥ ∧ b = ⊥)) : b - a = -(a - b) := by
  induction a <;> induction b <;> simp_all
  norm_cast; ring

/-- The square of a difference does not see its order. -/
theorem sub_mul_self (a b : EReal) : (b - a) * (b - a) = (a - b) * (a - b) := by
  by_cases h : a = ⊤ ∧ b = ⊤
  · rw [h.1, h.2]
  by_cases h' : a = ⊥ ∧ b = ⊥
  · rw [h'.1, h'.2]
  rw [neg_sub_swap a b h h', neg_mul_neg]

end Cert.Spec
-- ==== Proof.ArgMin.lean ====
module

public import proofs.«01_k».proof.Proof.Spec
public import proofs.«01_k».proof.ReferenceIdeal

@[expose] public section

noncomputable section

/-!
# Two computations of the first least index

The kernel takes the least value of a row, keeps the positions that attain it and takes the least of those. The reference
folds pairs (value, position) of the negated row, keeping the greater value and on equal values the smaller position. Both
are `Cert.Spec.pick`.
-/

namespace Cert.ArgMin
open Idealize.ShloMosaic Cert.Spec

/-- The word of a position reads back as the position. -/
theorem toInt_ofNat (k : Fin 1024) : (BitVec.ofNat 32 k.val).toInt = (k.val : Int) := by
  have := k.isLt
  rw [BitVec.toInt_ofNat']
  apply Int.bmod_eq_of_le <;> simp <;> omega

/-- Positions with the same word are the same. -/
theorem ofNat_inj {k k' : Fin 1024} (h : BitVec.ofNat 32 k.val = BitVec.ofNat 32 k'.val) : k = k' := by
  have := congrArg BitVec.toInt h
  rw [toInt_ofNat, toInt_ofNat] at this
  exact Fin.ext (by omega)

/-- The word of plus infinity denotes the top. -/
theorem top_word : Ideal.ofBits .f32 0x7F800000#32 = ⊤ := by simp [Ideal.ofBits, Ideal.ieee]

/-- The word of minus infinity denotes the bottom. -/
theorem bot_word : Ideal.ofBits .f32 0xFF800000#32 = ⊥ := by simp [Ideal.ofBits, Ideal.ieee]

/-- The least value of a row is attained at the pick. -/
theorem fold_min (f : Fin 1024 → EReal) : Finset.fold min ⊤ f Finset.univ = f (pick f) := by
  apply le_antisymm
  · exact (Finset.le_fold_min (b := ⊤) (f := f) (s := Finset.univ) _ |>.1 le_rfl).2 _ (Finset.mem_univ _)
  · exact (Finset.le_fold_min _).2 ⟨le_top, fun j _ => pick_le f j⟩

/-- The smaller of two words, read as integers. -/
theorem minsi_toInt (x y : BitVec 32) : (IntOp.minsi x y).toInt = min x.toInt y.toInt := by
  unfold IntOp.minsi
  split <;> rename_i h <;> simp only [BitVec.slt, decide_eq_true_eq] at h <;> omega

/-- The least of a set of words, read as an integer, is the least of their integers. -/
theorem fold_minsi_toInt (s : Finset (Fin 1024)) (b : BitVec 32) (g : Fin 1024 → BitVec 32) :
    (Finset.fold IntOp.minsi b g s).toInt = Finset.fold min b.toInt (fun k => (g k).toInt) s := by
  classical
  refine Finset.induction_on s (by simp) ?_
  intro a s ha ih
  rw [Finset.fold_insert ha, Finset.fold_insert ha, minsi_toInt, ih]

/-- The kernel's computation: the least position among those attaining the least value. -/
theorem kernel_pick (f : Fin 1024 → EReal) :
    Finset.fold IntOp.minsi (2147483647#32)
      (fun k => if f k = Finset.fold min ⊤ f Finset.univ then BitVec.ofNat 32 k.val else 1024#32) Finset.univ
      = BitVec.ofNat 32 (pick f).val := by
  apply BitVec.eq_of_toInt_eq
  rw [fold_minsi_toInt, toInt_ofNat, fold_min]
  apply le_antisymm
  · refine le_trans ((Finset.le_fold_min _ |>.1 le_rfl).2 (pick f) (Finset.mem_univ _)) ?_
    simp only [if_pos, toInt_ofNat]; exact le_rfl
  · refine (Finset.le_fold_min _).2 ⟨?_, fun k _ => ?_⟩
    · have := (pick f).isLt
      show ((pick f).val : Int) ≤ 2147483647
      omega
    · show ((pick f).val : Int) ≤ (if f k = f (pick f) then BitVec.ofNat 32 k.val else 1024#32).toInt
      split
      · rename_i h
        rw [toInt_ofNat]
        have := pick_first f k fun j => h ▸ pick_le f j
        exact_mod_cast this
      · have := (pick f).isLt
        show ((pick f).val : Int) ≤ 1024
        omega

/-- `p` is at least as good as `p'` in the reference's order: a greater value, or the same at a position no later. -/
def Beats (p p' : EReal × BitVec 32) : Prop := p'.1 < p.1 ∨ (p'.1 = p.1 ∧ p.2.toInt ≤ p'.2.toInt)

/-- Every pair is as good as itself. -/
theorem Beats.refl (p : EReal × BitVec 32) : Beats p p := .inr ⟨rfl, le_rfl⟩

/-- Being at least as good is transitive. -/
theorem Beats.trans {p q r : EReal × BitVec 32} (h : Beats p q) (h' : Beats q r) : Beats p r := by
  unfold Beats at *
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

open Cert.ReferenceIdeal in
/-- One step of the reference's fold keeps one of its two pairs, and that pair beats both. -/
theorem step (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  have key : reducer_argmax_f32_i32 (F := Ideal) (x, i) (y, j)
      = if y < x then (x, i) else if x = y then (if i.toInt < j.toInt then (x, i) else (x, j)) else (y, j) := by
    unfold reducer_argmax_f32_i32
    simp only [Ideal.cmpf_def, Ideal.cmp, IntOp.ori, IntOp.andi, IntOp.cmpi, Scalar.select, BitVec.slt]
    by_cases h1 : y < x
    · simp only [h1, decide_true, BitVec.ofBool_true, if_true]
      generalize BitVec.ofBool (decide (x = y)) &&& BitVec.ofBool (decide (i.toInt < j.toInt)) = b
      have hb : b = 0#1 ∨ b = 1#1 := by revert b; decide
      rcases hb with rfl | rfl <;> simp
    · by_cases h2 : x = y
      · subst h2
        by_cases h3 : i.toInt < j.toInt <;> simp [h3]
      · simp [h1, h2]
  rw [key]
  by_cases h1 : y < x
  · rw [if_pos h1]; exact ⟨.inl rfl, .refl _, .inl h1⟩
  rw [if_neg h1]
  by_cases h2 : x = y
  · subst h2
    rw [if_pos rfl]
    by_cases h3 : i.toInt < j.toInt
    · rw [if_pos h3]; exact ⟨.inl rfl, .refl _, .inr ⟨rfl, h3.le⟩⟩
    · rw [if_neg h3]; exact ⟨.inr rfl, .inr ⟨rfl, not_lt.1 h3⟩, .refl _⟩
  · rw [if_neg h2]; exact ⟨.inr rfl, .inl (lt_of_le_of_ne (not_lt.1 h1) h2), .refl _⟩

open Cert.ReferenceIdeal in
/-- The fold keeps one of the pairs it saw, and that pair beats them all. -/
theorem foldl_best (l : List (EReal × BitVec 32)) (a : EReal × BitVec 32) :
    l.foldl (reducer_argmax_f32_i32 (F := Ideal)) a ∈ a :: l
      ∧ ∀ p ∈ a :: l, Beats (l.foldl (reducer_argmax_f32_i32 (F := Ideal)) a) p := by
  induction l generalizing a with
  | nil => exact ⟨by simp, by simpa using Beats.refl a⟩
  | cons b l ih =>
    obtain ⟨hm, hb⟩ := ih (reducer_argmax_f32_i32 (F := Ideal) a b)
    obtain ⟨hs, ha, hb'⟩ := step a b
    rw [List.foldl_cons]
    refine ⟨?_, ?_⟩
    · rcases List.mem_cons.1 hm with h | h
      · rw [h]; rcases hs with h | h <;> simp [h]
      · simp [h]
    · intro p hp
      rcases List.mem_cons.1 hp with rfl | hp
      · exact (hb _ (List.mem_cons_self ..)).trans ha
      rcases List.mem_cons.1 hp with rfl | hp
      · exact (hb _ (List.mem_cons_self ..)).trans hb'
      · exact hb _ (List.mem_cons_of_mem _ hp)

open Cert.ReferenceIdeal in
/-- The reference's computation, over any list of exactly the pairs of the negated row. -/
theorem ref_pick (f : Fin 1024 → EReal) (l : List (EReal × BitVec 32))
    (hl : ∀ p, p ∈ l ↔ ∃ k : Fin 1024, p = (-(f k), BitVec.ofNat 32 k.val)) :
    (l.foldl (reducer_argmax_f32_i32 (F := Ideal)) (⊥, 0#32)).2 = BitVec.ofNat 32 (pick f).val := by
  obtain ⟨hm, hb⟩ := foldl_best l (⊥, 0#32)
  generalize l.foldl (reducer_argmax_f32_i32 (F := Ideal)) (⊥, 0#32) = p at hm hb
  have hb' : ∀ k : Fin 1024, Beats p (-(f k), BitVec.ofNat 32 k.val) := fun k =>
    hb _ (List.mem_cons_of_mem _ ((hl _).2 ⟨k, rfl⟩))
  rcases List.mem_cons.1 hm with rfl | h
  · have : pick f = 0 := by
      apply pick_eq
      · intro j
        have h0 : f 0 = ⊤ ∧ ∀ j, f j = ⊤ := by
          have : ∀ j, f j = ⊤ := fun j => by
            rcases hb' j with h | ⟨h, _⟩
            · exact absurd h not_lt_bot
            · simpa using h
          exact ⟨this 0, this⟩
        rw [h0.1, h0.2 j]
      · intro j _; exact Fin.zero_le j
    rw [this]; rfl
  · obtain ⟨k, rfl⟩ := (hl _).1 h
    have : pick f = k := by
      apply pick_eq
      · intro j
        rcases hb' j with h | ⟨h, _⟩
        · exact (EReal.neg_lt_neg_iff.1 h).le
        · exact (neg_injective h).ge
      · intro j hj
        rcases hb' j with h | ⟨_, h⟩
        · simp only [hj, lt_self_iff_false] at h
        · simp only [toInt_ofNat] at h
          exact_mod_cast h
    rw [this]

end Cert.ArgMin
-- ==== Proof.Pay.lean ====
module

public import proofs.«01_k».proof.Proof.Gen.KernelIdeal.Skeleton
public import proofs.«01_k».proof.Proof.ArgMin
public import Idealize.ShloMosaic.Lib.Pointwise
public import Idealize.ShloMosaic.Lib.IntMxu

@[expose] public section

set_option maxRecDepth 16384

noncomputable section

/-!
# The kernel's values at an index

Each value the kernel's body computes, read at an index, as the quantiser's mathematics. The lookup of a codebook row is a
product of a one-hot row of bytes with the codebook's byte planes: its words are exact, and the four bytes put together
again are the word of the codebook's entry.
-/

namespace Cert.KernelIdeal.Pay
open Idealize.ShloMosaic Cert.KernelIdeal Cert.KernelIdeal.Gen Cert.Spec

/-- The codebook as the kernel normalises it: each row over its norm. -/
theorem pay2_apply (v : Vec Ideal S1x1024x256 .f32) (k : Fin 1024) (e : Fin 256) :
    k0_pay2 (F := Ideal) v (ix2 k e) = unit (fun e => v (ix3 0 k e)) e := by
  pointwise [k0_pay2]
  rfl

/-- The normalised codebook that the kernel keeps for a whole layer. -/
theorem pay3_apply (v : Vec Ideal S1x1024x256 .f32) (k : Fin 1024) (e : Fin 256) :
    k0_pay3 (F := Ideal) v (ix2 k e) = unit (fun e => v (ix3 0 k e)) e := by
  pointwise [k0_pay3]
  exact pay2_apply v k e

/-- The sum of squares of a normalised codebook row. -/
theorem pay4_apply (v : Vec Ideal S1x1024x256 .f32) (k : Fin 1024) :
    k0_pay4 (F := Ideal) v (ix2 0 k) = sumsq (unit (fun e => v (ix3 0 k e))) := by
  pointwise [k0_pay4]
  simp only [pay2_apply]
  rfl

/-- The encoding: a row of the residual times the input weights, and the bias. -/
theorem pay5_apply (a : Vec Ideal S1024x1024 .f32) (w : Vec Ideal S1x256x1024 .f32) (b : Vec Ideal S1x1x256 .f32)
    (n : Fin 1024) (e : Fin 256) :
    k0_pay5 (F := Ideal) a w b (ix2 n e) = (∑ d, a (ix2 n d) * w (ix3 0 e d)) + b (ix3 0 0 e) := by
  pointwise [k0_pay5]

/-- The sum of squares of the normalised encoding, less twice its product with a codebook row. -/
theorem pay6_apply (a : Vec Ideal S1024x1024 .f32) (w : Vec Ideal S1x256x1024 .f32) (b : Vec Ideal S1x1x256 .f32)
    (c : Vec Ideal S1024x256 .f32) (n : Fin 1024) (k : Fin 1024) :
    k0_pay6 (F := Ideal) a w b c (ix2 n k) = sumsq (unit (fun e => k0_pay5 (F := Ideal) a w b (ix2 n e)))
      - two * ∑ e, unit (fun e => k0_pay5 (F := Ideal) a w b (ix2 n e)) e * c (ix2 k e) := by
  pointwise [k0_pay6]
  rfl

/-- The chosen code is the first position at which the distance is least. -/
theorem pay7_apply (v : FVec Ideal S1024x1024 .f32) (c : Vec Ideal S1x1024 .f32) (n : Fin 1024) :
    k0_pay7 (F := Ideal) v c (ix2 n 0) = BitVec.ofNat 32 (pick fun k => v (ix2 n k) + c (ix2 0 k)).val := by
  pointwise [k0_pay7]
  rw [show Ideal.ofBits .f32 2139095040#32 = ⊤ from ArgMin.top_word]
  exact ArgMin.kernel_pick _

/-- The code that is stored is the chosen one. -/
theorem pay8_apply (v : FVec Ideal S1024x1024 .f32) (c : Vec Ideal S1x1024 .f32) (n : Fin 1024) :
    k0_pay8 (F := Ideal) v c (ix4 0 0 n 0) = k0_pay7 (F := Ideal) v c (ix2 n 0) := by
  pointwise [k0_pay8]
  try rfl

/-- The squared error of a chunk: over its rows and entries, the encoding less the looked-up row, squared. -/
theorem pay13_apply (z : FVec Ideal S1024x256 .f32) (a b : IVec S1024x256 32) :
    k0_pay13 (F := Ideal) z a b 24#32 = ∑ n : Fin 1024, ∑ e : Fin 256,
      (z (ix2 n e) - k0_pay12 (F := Ideal) a b 24#32 (ix2 n e)) * (z (ix2 n e) - k0_pay12 (F := Ideal) a b 24#32 (ix2 n e)) := by
  pointwise [k0_pay13]

/-- The next residual: the residual less the output product and its bias. -/
theorem pay16_apply (r : Vec Ideal S1024x1024 .f32) (z : FVec Ideal S1024x256 .f32) (a b : IVec S1024x256 32)
    (w : Vec Ideal S1x1024x256 .f32) (bo : Vec Ideal S1x1x1024 .f32) (n d : Fin 1024) :
    k0_pay16 (F := Ideal) r z a b 24#32 w bo (ix2 n d) = r (ix2 n d) - ((∑ e : Fin 256,
      (z (ix2 n e) + (k0_pay12 (F := Ideal) a b 24#32 (ix2 n e) - z (ix2 n e))) * w (ix3 0 d e)) + bo (ix3 0 0 d)) := by
  pointwise [k0_pay16]

/-- The residual that is stored is the next residual. -/
theorem pay17_apply (r : Vec Ideal S1024x1024 .f32) (z : FVec Ideal S1024x256 .f32) (a b : IVec S1024x256 32)
    (w : Vec Ideal S1x1024x256 .f32) (bo : Vec Ideal S1x1x1024 .f32) (n d : Fin 1024) :
    k0_pay17 (F := Ideal) r z a b 24#32 w bo (ix2 n d) = k0_pay16 (F := Ideal) r z a b 24#32 w bo (ix2 n d) := by
  pointwise [k0_pay17]

/-- The quantised row that is stored: the row less the next residual. -/
theorem pay18_apply (r : Vec Ideal S1024x1024 .f32) (z : FVec Ideal S1024x256 .f32) (a b : IVec S1024x256 32)
    (w : Vec Ideal S1x1024x256 .f32) (bo : Vec Ideal S1x1x1024 .f32) (x : Vec Ideal S1024x1024 .f32) (n d : Fin 1024) :
    k0_pay18 (F := Ideal) r z a b 24#32 w bo x (ix2 n d)
      = x (ix2 n d) - k0_pay16 (F := Ideal) r z a b 24#32 w bo (ix2 n d) := by
  pointwise [k0_pay18]

/-! ### The lookup -/

/-- The one-hot row against a column of bytes is the byte at the chosen position. -/
theorem pay9_apply (v : FVec Ideal S1024x1024 .f32) (c : Vec Ideal S1x1024 .f32) (w : Vec Ideal S1x1024x1024 .i8)
    (n l k : Fin 1024) (hk : k0_pay7 (F := Ideal) v c (ix2 n 0) = BitVec.ofNat 32 k.val) :
    k0_pay9 (F := Ideal) v c w (ix2 n l) = BitVec.ofInt 32 (w (ix3 0 k l)).toInt := by
  unfold k0_pay9
  dsimp only
  generalize hl : (extui 8 _ _ : IVec S1024x1024 8) = lhs
  generalize hr : (shapeCast S1024x1024 w _ : IVec S1024x1024 8) = rhs
  have hlhs : ∀ x : Fin 1024, (lhs (ix2 n x)).toInt = if x = k then 1 else 0 := by
    intro x
    rw [← hl]
    pointwise
    rw [hk]
    by_cases h : x = k
    · subst h; simp [IntOp.cmpi]
    · have : BitVec.ofNat 32 x.val ≠ BitVec.ofNat 32 k.val := fun e => h (ArgMin.ofNat_inj e)
      simp only [IntOp.cmpi, beq_eq_false_iff_ne.2 this, h, if_false]; rfl
  have hrhs : ∀ x : Fin 1024, rhs (ix2 x l) = w (ix3 0 x l) := by
    intro x
    rw [← hr]
    pointwise
  have hc : dot_S1024x1024_S1024x1024_S1024x1024_1_0_0_1_n_n.lhsContracting = [1] := rfl
  have hK : S1024x1024.size (1 : Fin 2) = 1024 := rfl
  have hL : ∀ x : Fin 1024, dot_S1024x1024_S1024x1024_S1024x1024_1_0_0_1_n_n.lhsIdx (ix2 n l)
      (dot_S1024x1024_S1024x1024_S1024x1024_1_0_0_1_n_n.contrIdx₁ hc hK x) = ix2 n x := by
    intro x; funext a; match a with | 0 => rfl | 1 => rfl
  have hR : ∀ x : Fin 1024, dot_S1024x1024_S1024x1024_S1024x1024_1_0_0_1_n_n.rhsIdx (ix2 n l)
      (dot_S1024x1024_S1024x1024_S1024x1024_1_0_0_1_n_n.contrIdx₁ hc hK x) = ix2 x l := by
    intro x; funext a; match a with | 0 => rfl | 1 => rfl
  rw [matmulI8_exact _ _ _ _ _ _ rfl]
  · refine congrArg (BitVec.ofInt 32) ?_
    unfold dotI8
    rw [DotDims.sum_contr₁ _ hc hK]
    simp only [hL, hR, hlhs, hrhs, ite_mul, one_mul, zero_mul, Finset.sum_ite_eq', Finset.mem_univ, if_true]
  · unfold absDotI8
    rw [DotDims.sum_contr₁ _ hc hK]
    simp only [hL, hR, hlhs, hrhs, ite_mul, one_mul, zero_mul, apply_ite Int.natAbs, Int.natAbs_zero, Finset.sum_ite_eq',
      Finset.mem_univ, if_true]
    have := natAbs_toInt_i8_le (w (ix3 0 k l))
    exact this.trans (by norm_num)

/-- Byte `p` of a word, less 128, as the signed byte the plane `p` holds. -/
def planeByte (b : BitVec 32) (p : Fin 4) : BitVec 8 := (((b >>> (8 * p.val)) &&& 255#32) - 128#32).setWidth 8

/-- A byte less 128, read as a signed integer, plus 128 is the byte again. -/
theorem byte_round (y : BitVec 8) : BitVec.ofInt 32 (y - 128#8).toInt + 128#32 = y.setWidth 32 := by
  revert y; decide +kernel

/-- A plane holds byte `p` of the word less 128, modulo 256. -/
theorem planeByte_eq (b : BitVec 32) (p : Fin 4) : planeByte b p = (b >>> (8 * p.val)).setWidth 8 - 128#8 := by
  apply BitVec.eq_of_toNat_eq
  unfold planeByte
  generalize b >>> (8 * p.val) = c
  have h : (c &&& 255#32).toNat = c.toNat % 256 := by
    rw [BitVec.toNat_and]; exact Nat.and_two_pow_sub_one_eq_mod _ 8
  simp only [BitVec.toNat_setWidth, BitVec.toNat_sub, h, BitVec.toNat_ofNat]
  omega

/-- The bytes of a word put together again. -/
theorem bytes (b : BitVec 32) :
    ((((BitVec.ofInt 32 (planeByte b 0).toInt + 128#32) ||| ((BitVec.ofInt 32 (planeByte b 1).toInt + 128#32) <<< 8))
      ||| ((BitVec.ofInt 32 (planeByte b 2).toInt + 128#32) <<< 16))
      ||| ((BitVec.ofInt 32 (planeByte b 3).toInt + 128#32) <<< 24)) = b := by
  simp only [planeByte_eq, byte_round]
  apply BitVec.eq_of_getLsbD_eq
  intro i hi
  simp only [BitVec.getLsbD_or, BitVec.getLsbD_shiftLeft, BitVec.getLsbD_setWidth, BitVec.getLsbD_ushiftRight]
  interval_cases i <;> simp

/-- The looked-up row: where the planes hold the bytes of the words `cw`, the number the chosen word denotes. -/
theorem pay12_apply (v : FVec Ideal S1024x1024 .f32) (c : Vec Ideal S1x1024 .f32) (w : Vec Ideal S1x1024x1024 .i8)
    (n k : Fin 1024) (e : Fin 256) (cw : BitVec 32)
    (hk : k0_pay7 (F := Ideal) v c (ix2 n 0) = BitVec.ofNat 32 k.val)
    (hw : ∀ (p : Fin 4) (l : Fin 1024), l.val = 256 * p.val + e.val → w (ix3 0 k l) = planeByte cw p) :
    k0_pay12 (F := Ideal) (k0_pay10 v c w) (k0_pay11 v c w) 24#32 (ix2 n e) = Ideal.ofBits .f32 cw := by
  pointwise [k0_pay12, k0_pay10, k0_pay11]
  simp only [pay9_apply v c w n _ k hk]
  rw [hw 0 _ (by simp), hw 1 _ rfl, hw 2 _ rfl, hw 3 _ rfl]
  exact congrArg _ (bytes cw)

end Cert.KernelIdeal.Pay
-- ==== Proof.Cases.lean ====
module

public import proofs.«01_k».proof.Proof.Pay
public import proofs.«01_k».proof.Proof.Gen.KernelIdeal.Frame
public import Idealize.ShloMosaic.Lib.Pipeline.Value
public import Idealize.ShloMosaic.Lib.Pipeline.ValueKit.Tiles
public import Idealize.ShloMosaic.Lib.WritesUnit
public import Idealize.ShloMosaic.Lib.VecWindow
public import Idealize.ShloMosaic.Lib.Tactic

@[expose] public section

noncomputable section

/-!
# What one grid point leaves

The kernel's body in each of its five cases: which payload each buffer holds afterwards, in terms of what the point found. Case A is
the first point, B the second point of a layer before the last, C the first point of a layer between, D and E the last layer's two
points.
-/

namespace Cert.KernelIdeal.Cases
open Idealize.ShloMosaic Idealize.ShloMosaic.TcCoe Cert.KernelIdeal Cert.KernelIdeal.Gen

/-- The rows that grid point `i` works on. -/
def chunk (x : Vec Ideal S2048x1024 .f32) (i : grid0.Coords) : Vec Ideal S1024x1024 .f32 :=
  fun y => x (ix2 (n0 := 2048) (n1 := 1024) ⟨1024 * (i 1).val + (y 0).val, by
    have h : (i 1).val < 2 := (i 1).isLt
    have h' : (y 0).val < 1024 := (y 0).isLt
    omega⟩ (y 1))

/-- The array `x` with the rows of grid point `i` replaced by `w`. -/
def put (x : Vec Ideal S2048x1024 .f32) (i : grid0.Coords) (w : Vec Ideal S1024x1024 .f32) : Vec Ideal S2048x1024 .f32 :=
  fun y => if h : 1024 * (i 1).val ≤ (y 0).val ∧ (y 0).val < 1024 * (i 1).val + 1024 then
    w (ix2 (n0 := 1024) (n1 := 1024) ⟨(y 0).val - 1024 * (i 1).val, by omega⟩ (y 1)) else x y

/-- The codes of the rows `r`. -/
def codes (r : Vec Ideal S1024x1024 .f32) (W : Vec Ideal S1x256x1024 .f32) (bi : Vec Ideal S1x1x256 .f32) (cn : Vec Ideal S1024x256 .f32)
    (cn2 : Vec Ideal S1x1024 .f32) : Vec Ideal S1x1x1024x1 .i32 := k0_pay8 (k0_pay6 r W bi cn) cn2

/-- The error sum of the rows `r`. -/
def errs (r : Vec Ideal S1024x1024 .f32) (W : Vec Ideal S1x256x1024 .f32) (bi : Vec Ideal S1x1x256 .f32) (cn : Vec Ideal S1024x256 .f32)
    (cn2 : Vec Ideal S1x1024 .f32) (pl : Vec Ideal S1x1024x1024 .i8) : Ideal .f32 :=
  k0_pay13 (k0_pay5 r W bi) (k0_pay10 (k0_pay6 r W bi cn) cn2 pl) (k0_pay11 (k0_pay6 r W bi cn) cn2 pl) 24#32

/-- The next residual of the rows `r`. -/
def next (r : Vec Ideal S1024x1024 .f32) (W : Vec Ideal S1x256x1024 .f32) (bi : Vec Ideal S1x1x256 .f32) (Wo : Vec Ideal S1x1024x256 .f32)
    (bo : Vec Ideal S1x1x1024 .f32) (cn : Vec Ideal S1024x256 .f32) (cn2 : Vec Ideal S1x1024 .f32) (pl : Vec Ideal S1x1024x1024 .i8) :
    Vec Ideal S1024x1024 .f32 :=
  k0_pay17 r (k0_pay5 r W bi) (k0_pay10 (k0_pay6 r W bi cn) cn2 pl) (k0_pay11 (k0_pay6 r W bi cn) cn2 pl) 24#32 Wo bo

/-- What remains of the rows `x` once their last residual is taken away. -/
def outs (r x : Vec Ideal S1024x1024 .f32) (W : Vec Ideal S1x256x1024 .f32) (bi : Vec Ideal S1x1x256 .f32) (Wo : Vec Ideal S1x1024x256 .f32)
    (bo : Vec Ideal S1x1x1024 .f32) (cn : Vec Ideal S1024x256 .f32) (cn2 : Vec Ideal S1x1024 .f32) (pl : Vec Ideal S1x1024x1024 .i8) :
    Vec Ideal S1024x1024 .f32 :=
  k0_pay18 r (k0_pay5 r W bi) (k0_pay10 (k0_pay6 r W bi cn) cn2 pl) (k0_pay11 (k0_pay6 r W bi cn) cn2 pl) 24#32 Wo bo x

/-- Two zero offsets. -/
theorem z2 : (![0, 0] : Fin 2 → ℕ) = fun _ => 0 := by decide
/-- Three zero offsets. -/
theorem z3 : (![0, 0, 0] : Fin 3 → ℕ) = fun _ => 0 := by decide
/-- Four zero offsets. -/
theorem z4 : (![0, 0, 0, 0] : Fin 4 → ℕ) = fun _ => 0 := by decide
/-- One zero offset. -/
theorem z1 : (![0] : Fin 1 → ℕ) = fun _ => 0 := by decide

/-- The row where grid point `i` begins, as the kernel computes it. -/
theorem start (i : grid0.Coords) : BitVec.toNat (Scalar.indexCast (Scalar.muli (BitVec.ofNat 32 (i 1).val) 1024#32)) = 1024 * (i 1).val := by
  have h : (i 1).val < 2 := (i 1).isLt
  have h' : (i 1).val = 0 ∨ (i 1).val = 1 := by omega
  rcases h' with h' | h' <;> rw [h'] <;> rfl

/-- A load of grid point `i`'s rows. -/
theorem ld_chunk (x : Vec Ideal S2048x1024 .f32) (i : grid0.Coords)
    (h : ∀ a, (![BitVec.toNat (Scalar.indexCast (Scalar.muli (BitVec.ofNat 32 ((i 1).val)) 1024#32)), 0] : Fin 2 → ℕ) a + (![1024, 1024] : Fin 2 → ℕ) a ≤ S2048x1024.size a) :
    View.ld (Val := Elt Ideal) (e' := .f32) x (Rect.unit (s := S2048x1024) ![BitVec.toNat (Scalar.indexCast (Scalar.muli (BitVec.ofNat 32 ((i 1).val)) 1024#32)), 0] ![1024, 1024] h) = chunk x i := by
  funext y
  unfold chunk
  refine View.ld_unit_apply_of (Val := Elt Ideal) (e := .f32) x _ _ _ y _ ?_
  intro a
  match a with
  | ⟨0, _⟩ => show 1024 * (i 1).val + (y 0).val = _ + _; rw [← start]; rfl
  | ⟨1, _⟩ => show (y 1).val = 0 + (y 1).val; omega

/-- A load of grid point `i`'s rows, right after a store of all rows. -/
theorem ld_stored {sp : Space} (v : View sig .tc sp S2048x1024 .f32) (f : v.ty.Contents (Elt Ideal)) (x : Vec Ideal S2048x1024 .f32) (i : grid0.Coords)
    (h' : ∀ a, (![0, 0] : Fin 2 → ℕ) a + S2048x1024.size a ≤ S2048x1024.size a)
    (h : ∀ a, (![BitVec.toNat (Scalar.indexCast (Scalar.muli (BitVec.ofNat 32 (i 1).val) 1024#32)), 0] : Fin 2 → ℕ) a + (![1024, 1024] : Fin 2 → ℕ) a ≤ S2048x1024.size a) :
    View.ld (Val := Elt Ideal) (e' := .f32) (v.read (Elt Ideal) (v.writes (Elt Ideal) f [⟨Rect.unit (s := S2048x1024) ![0, 0] S2048x1024.size h', x⟩]))
      (Rect.unit (s := S2048x1024) ![BitVec.toNat (Scalar.indexCast (Scalar.muli (BitVec.ofNat 32 (i 1).val) 1024#32)), 0] ![1024, 1024] h) = chunk x i :=
  (congrArg (fun a : Vec Ideal S2048x1024 .f32 => View.ld (Val := Elt Ideal) (e' := .f32) a (Rect.unit (s := S2048x1024) ![BitVec.toNat (Scalar.indexCast (Scalar.muli (BitVec.ofNat 32 (i 1).val) 1024#32)), 0] ![1024, 1024] h))
    (View.read_writes_full v f h' x [])).trans (ld_chunk x i h)

/-- A load of the one running sum. -/
theorem ld_cell (x : Vec Ideal S1 .f32) (h : ∀ a, (![0] : Fin 1 → ℕ) a + (![1] : Fin 1 → ℕ) a ≤ S1.size a)
    (y : (Rect.unit (s := S1) ![0] ![1] h).shape.Idx) :
    View.ld (Val := Elt Ideal) (e' := .f32) x (Rect.unit (s := S1) ![0] ![1] h) y = x (ix1 (n0 := 1) 0) := by
  refine congrArg x ?_
  funext a
  match a with
  | ⟨0, _⟩ => exact Subsingleton.elim (α := Fin 1) _ _

/-- What a store of grid point `i`'s rows leaves, over contents `x`. -/
theorem put_eq {sp : Space} (v : View sig .tc sp S2048x1024 .f32) (f : v.ty.Contents (Elt Ideal)) (i : grid0.Coords)
    (h : ∀ a, (k0_off1 i) a + (![1024, 1024] : Fin 2 → ℕ) a ≤ S2048x1024.size a)
    (w : Vec Ideal S1024x1024 .f32) (L : List (View.Piece (Elt Ideal) S2048x1024 .f32)) (x : Vec Ideal S2048x1024 .f32)
    (hx : v.read (Elt Ideal) (v.writes (Elt Ideal) f L) = x) :
    v.read (Elt Ideal) (v.writes (Elt Ideal) f (⟨Rect.unit (s := S2048x1024) (k0_off1 i) ![1024, 1024] h, w⟩ :: L)) = put x i w := by
  subst hx
  funext y
  refine (View.read_writes_cons_rows (d := ![2048, 1024]) v f (o := 1024 * (i 1).val) (W := 1024) h w L y ?_ rfl rfl).trans ?_
  · show (![_, 0] : Fin 2 → ℕ) = _
    rw [start]
  · unfold put
    split
    · refine congrArg w ?_
      funext a
      match a with
      | ⟨0, _⟩ => rfl
      | ⟨1, _⟩ => exact Fin.ext (by show (y 1).val - 0 = (y 1).val; omega)
    · rfl

/-- The codes that the first point writes. -/
theorem A_codes {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 = codes (chunk (k0_pay1 x0) i) x1 x2 (k0_pay3 x5) (k0_pay4 x5) := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6)]
  unfold kernelRun0_A
  dsimp only
  sl_unfold_words
  rw [View.canon_cons_unit_zero (S := S1x1x1024x1) z4]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg (fun r : Vec Ideal S1024x1024 .f32 => codes r x1 x2 (k0_pay3 x5) (k0_pay4 x5)) (ld_stored _ _ (k0_pay1 x0) i _ _)

/-- The error sum after the first point. -/
theorem A_acc {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 = (fun _ => errs (chunk (k0_pay1 x0) i) x1 x2 (k0_pay3 x5) (k0_pay4 x5) x6 : Vec Ideal S1 .f32) := by
  unfold sout0_A_1
  rw [View.read_writes_eq_canon _ _ _ (scover0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6)]
  unfold kernelRun0_A
  dsimp only
  sl_unfold_words
  rw [View.canon_cons_unit_zero (S := S1) z1]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg (fun r : Vec Ideal S1024x1024 .f32 => (fun _ => errs r x1 x2 (k0_pay3 x5) (k0_pay4 x5) x6 : Vec Ideal S1 .f32)) (ld_stored _ _ (k0_pay1 x0) i _ _)

/-- The normalised codebook after the first point. -/
theorem A_cn {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 = k0_pay3 x5 := by
  unfold sout0_A_2
  rw [View.read_writes_eq_canon _ _ _ (scover0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6)]
  unfold kernelRun0_A
  dsimp only
  sl_unfold_words
  rw [View.canon_cons_unit_zero (S := S1024x256) z2]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]

/-- The normalised codebook's square sums after the first point. -/
theorem A_cn2 {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 = k0_pay4 x5 := by
  unfold sout0_A_3
  rw [View.read_writes_eq_canon _ _ _ (scover0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6)]
  unfold kernelRun0_A
  dsimp only
  sl_unfold_words
  rw [View.canon_cons_unit_zero (S := S1x1024) z2]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]

/-- The residuals after the first point. -/
theorem A_res {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 = put (k0_pay1 x0) i (next (chunk (k0_pay1 x0) i) x1 x2 x3 x4 (k0_pay3 x5) (k0_pay4 x5) x6) := by
  unfold sout0_A_0 kernelRun0_A
  dsimp only
  sl_unfold_words
  refine (put_eq _ _ i _ _ _ (k0_pay1 x0) ?_).trans ?_
  · refine (View.read_writes_full _ _ _ _ _).trans ?_
    simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  · simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
    exact congrArg (fun r : Vec Ideal S1024x1024 .f32 => put (k0_pay1 x0) i (next r x1 x2 x3 x4 (k0_pay3 x5) (k0_pay4 x5) x6)) (ld_stored _ _ (k0_pay1 x0) i _ _)

/-- The codes that a layer's second point writes. -/
theorem B_codes {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = codes (chunk xs0 i) x1 x2 xs2 xs3 := by
  unfold out0_B_8
  rw [View.read_writes_eq_canon _ _ _ (cover0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3)]
  unfold kernelRun0_B
  dsimp only
  sl_unfold_words
  rw [View.canon_cons_unit_zero (S := S1x1x1024x1) z4]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg (fun r : Vec Ideal S1024x1024 .f32 => codes r x1 x2 xs2 xs3) (ld_chunk xs0 i _)

/-- The error sum after a layer's second point. -/
theorem B_acc {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = (fun _ => Scalar.addf (φ := .f32) (xs1 (ix1 (n0 := 1) 0)) (errs (chunk xs0 i) x1 x2 xs2 xs3 x6) : Vec Ideal S1 .f32) := by
  unfold sout0_B_1
  rw [View.read_writes_eq_canon _ _ _ (scover0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3)]
  unfold kernelRun0_B
  dsimp only
  sl_unfold_words
  rw [View.canon_cons_unit_zero (S := S1) z1]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg₂ (fun (r : Vec Ideal S1024x1024 .f32) (a : Ideal .f32) => (fun _ => Scalar.addf (φ := .f32) a (errs r x1 x2 xs2 xs3 x6) : Vec Ideal S1 .f32)) (ld_chunk xs0 i _) (ld_cell xs1 _ _)

/-- The loss that a layer's second point writes. -/
theorem B_loss {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = (fun _ => k0_pay15 (Scalar.addf (φ := .f32) (xs1 (ix1 (n0 := 1) 0)) (errs (chunk xs0 i) x1 x2 xs2 xs3 x6)) : Vec Ideal S1x1x1 .f32) := by
  unfold out0_B_9
  rw [View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3)]
  unfold kernelRun0_B
  dsimp only
  sl_unfold_words
  rw [View.canon_cons_unit_zero (S := S1x1x1) z3]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg₂ (fun (r : Vec Ideal S1024x1024 .f32) (a : Ideal .f32) => (fun _ => k0_pay15 (Scalar.addf (φ := .f32) a (errs r x1 x2 xs2 xs3 x6)) : Vec Ideal S1x1x1 .f32)) (ld_chunk xs0 i _) (ld_cell xs1 _ _)

/-- The residuals after a layer's second point. -/
theorem B_res {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = put xs0 i (next (chunk xs0 i) x1 x2 x3 x4 xs2 xs3 x6) := by
  unfold sout0_B_0 kernelRun0_B
  dsimp only
  refine (put_eq _ _ i _ _ _ xs0 ?_).trans ?_
  · exact harg12.read_unread xs0
  · sl_unfold_words
    simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
    exact congrArg (fun r : Vec Ideal S1024x1024 .f32 => put xs0 i (next r x1 x2 x3 x4 xs2 xs3 x6)) (ld_chunk xs0 i _)

/-- The codes that a layer's first point writes. -/
theorem C_codes {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = codes (chunk xs0 i) x1 x2 (k0_pay3 x5) (k0_pay4 x5) := by
  unfold out0_C_8
  rw [View.read_writes_eq_canon _ _ _ (cover0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_C
  dsimp only
  sl_unfold_words
  rw [View.canon_cons_unit_zero (S := S1x1x1024x1) z4]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg (fun r : Vec Ideal S1024x1024 .f32 => codes r x1 x2 (k0_pay3 x5) (k0_pay4 x5)) (ld_chunk xs0 i _)

/-- The error sum after a layer's first point. -/
theorem C_acc {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = (fun _ => errs (chunk xs0 i) x1 x2 (k0_pay3 x5) (k0_pay4 x5) x6 : Vec Ideal S1 .f32) := by
  unfold sout0_C_1
  rw [View.read_writes_eq_canon _ _ _ (scover0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_C
  dsimp only
  sl_unfold_words
  rw [View.canon_cons_unit_zero (S := S1) z1]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg (fun r : Vec Ideal S1024x1024 .f32 => (fun _ => errs r x1 x2 (k0_pay3 x5) (k0_pay4 x5) x6 : Vec Ideal S1 .f32)) (ld_chunk xs0 i _)

/-- The normalised codebook after a layer's first point. -/
theorem C_cn {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = k0_pay3 x5 := by
  unfold sout0_C_2
  rw [View.read_writes_eq_canon _ _ _ (scover0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_C
  dsimp only
  sl_unfold_words
  rw [View.canon_cons_unit_zero (S := S1024x256) z2]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]

/-- The normalised codebook's square sums after a layer's first point. -/
theorem C_cn2 {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = k0_pay4 x5 := by
  unfold sout0_C_3
  rw [View.read_writes_eq_canon _ _ _ (scover0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_C
  dsimp only
  sl_unfold_words
  rw [View.canon_cons_unit_zero (S := S1x1024) z2]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]

/-- The residuals after a layer's first point. -/
theorem C_res {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : ¬cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = put xs0 i (next (chunk xs0 i) x1 x2 x3 x4 (k0_pay3 x5) (k0_pay4 x5) x6) := by
  unfold sout0_C_0 kernelRun0_C
  dsimp only
  refine (put_eq _ _ i _ _ _ xs0 ?_).trans ?_
  · exact harg12.read_unread xs0
  · sl_unfold_words
    simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
    exact congrArg (fun r : Vec Ideal S1024x1024 .f32 => put xs0 i (next r x1 x2 x3 x4 (k0_pay3 x5) (k0_pay4 x5) x6)) (ld_chunk xs0 i _)

/-- The codes that the last layer's first point writes. -/
theorem D_codes {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    out0_D_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = codes (chunk xs0 i) x1 x2 (k0_pay3 x5) (k0_pay4 x5) := by
  unfold out0_D_8
  rw [View.read_writes_eq_canon _ _ _ (cover0_D_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_D
  dsimp only
  sl_unfold_words
  rw [View.canon_cons_unit_zero (S := S1x1x1024x1) z4]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg (fun r : Vec Ideal S1024x1024 .f32 => codes r x1 x2 (k0_pay3 x5) (k0_pay4 x5)) (ld_chunk xs0 i _)

/-- The error sum after the last layer's first point. -/
theorem D_acc {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    sout0_D_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = (fun _ => errs (chunk xs0 i) x1 x2 (k0_pay3 x5) (k0_pay4 x5) x6 : Vec Ideal S1 .f32) := by
  unfold sout0_D_1
  rw [View.read_writes_eq_canon _ _ _ (scover0_D_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_D
  dsimp only
  sl_unfold_words
  rw [View.canon_cons_unit_zero (S := S1) z1]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg (fun r : Vec Ideal S1024x1024 .f32 => (fun _ => errs r x1 x2 (k0_pay3 x5) (k0_pay4 x5) x6 : Vec Ideal S1 .f32)) (ld_chunk xs0 i _)

/-- The normalised codebook after the last layer's first point. -/
theorem D_cn {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    sout0_D_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = k0_pay3 x5 := by
  unfold sout0_D_2
  rw [View.read_writes_eq_canon _ _ _ (scover0_D_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_D
  dsimp only
  sl_unfold_words
  rw [View.canon_cons_unit_zero (S := S1024x256) z2]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]

/-- The normalised codebook's square sums after the last layer's first point. -/
theorem D_cn2 {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    sout0_D_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = k0_pay4 x5 := by
  unfold sout0_D_3
  rw [View.read_writes_eq_canon _ _ _ (scover0_D_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_D
  dsimp only
  sl_unfold_words
  rw [View.canon_cons_unit_zero (S := S1x1024) z2]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]

/-- The quantized rows that the last layer's first point writes. -/
theorem D_outs {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    out0_D_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = outs (chunk xs0 i) (chunk x0 i) x1 x2 x3 x4 (k0_pay3 x5) (k0_pay4 x5) x6 := by
  unfold out0_D_7
  rw [View.read_writes_eq_canon _ _ _ (cover0_D_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0)]
  unfold kernelRun0_D
  dsimp only
  sl_unfold_words
  rw [View.canon_cons_unit_zero (S := S1024x1024) z2]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg₂ (fun r x : Vec Ideal S1024x1024 .f32 => outs r x x1 x2 x3 x4 (k0_pay3 x5) (k0_pay4 x5) x6) (ld_chunk xs0 i _) (ld_chunk x0 i _)

/-- The residuals after the last layer's first point. -/
theorem D_res {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : cond0_1 i} {hc2 : cond0_2 i} {hc3 : ¬cond0_3 i} {hc4 : ¬cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} :
    sout0_D_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 = put xs0 i (next (chunk xs0 i) x1 x2 x3 x4 (k0_pay3 x5) (k0_pay4 x5) x6) := by
  unfold sout0_D_0 kernelRun0_D
  dsimp only
  refine (put_eq _ _ i _ _ _ xs0 ?_).trans ?_
  · exact harg12.read_unread xs0
  · sl_unfold_words
    simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
    exact congrArg (fun r : Vec Ideal S1024x1024 .f32 => put xs0 i (next r x1 x2 x3 x4 (k0_pay3 x5) (k0_pay4 x5) x6)) (ld_chunk xs0 i _)

/-- The codes that the last layer's second point writes. -/
theorem E_codes {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    out0_E_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = codes (chunk xs0 i) x1 x2 xs2 xs3 := by
  unfold out0_E_8
  rw [View.read_writes_eq_canon _ _ _ (cover0_E_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3)]
  unfold kernelRun0_E
  dsimp only
  sl_unfold_words
  rw [View.canon_cons_unit_zero (S := S1x1x1024x1) z4]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg (fun r : Vec Ideal S1024x1024 .f32 => codes r x1 x2 xs2 xs3) (ld_chunk xs0 i _)

/-- The error sum after the last layer's second point. -/
theorem E_acc {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    sout0_E_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = (fun _ => Scalar.addf (φ := .f32) (xs1 (ix1 (n0 := 1) 0)) (errs (chunk xs0 i) x1 x2 xs2 xs3 x6) : Vec Ideal S1 .f32) := by
  unfold sout0_E_1
  rw [View.read_writes_eq_canon _ _ _ (scover0_E_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3)]
  unfold kernelRun0_E
  dsimp only
  sl_unfold_words
  rw [View.canon_cons_unit_zero (S := S1) z1]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg₂ (fun (r : Vec Ideal S1024x1024 .f32) (a : Ideal .f32) => (fun _ => Scalar.addf (φ := .f32) a (errs r x1 x2 xs2 xs3 x6) : Vec Ideal S1 .f32)) (ld_chunk xs0 i _) (ld_cell xs1 _ _)

/-- The loss that the last layer's second point writes. -/
theorem E_loss {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    out0_E_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = (fun _ => k0_pay15 (Scalar.addf (φ := .f32) (xs1 (ix1 (n0 := 1) 0)) (errs (chunk xs0 i) x1 x2 xs2 xs3 x6)) : Vec Ideal S1x1x1 .f32) := by
  unfold out0_E_9
  rw [View.read_writes_eq_canon _ _ _ (cover0_E_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3)]
  unfold kernelRun0_E
  dsimp only
  sl_unfold_words
  rw [View.canon_cons_unit_zero (S := S1x1x1) z3]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg₂ (fun (r : Vec Ideal S1024x1024 .f32) (a : Ideal .f32) => (fun _ => k0_pay15 (Scalar.addf (φ := .f32) a (errs r x1 x2 xs2 xs3 x6)) : Vec Ideal S1x1x1 .f32)) (ld_chunk xs0 i _) (ld_cell xs1 _ _)

/-- The quantized rows that the last layer's second point writes. -/
theorem E_outs {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    out0_E_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = outs (chunk xs0 i) (chunk x0 i) x1 x2 x3 x4 xs2 xs3 x6 := by
  unfold out0_E_7
  rw [View.read_writes_eq_canon _ _ _ (cover0_E_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3)]
  unfold kernelRun0_E
  dsimp only
  sl_unfold_words
  rw [View.canon_cons_unit_zero (S := S1024x1024) z2]
  simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
  exact congrArg₂ (fun r x : Vec Ideal S1024x1024 .f32 => outs r x x1 x2 x3 x4 xs2 xs3 x6) (ld_chunk xs0 i _) (ld_chunk x0 i _)

/-- The residuals after the last layer's second point. -/
theorem E_res {c : Dev nD} {i : grid0.Coords} {arg2 : Memref sig .tc .vmem S2048x1024 .f32} {harg2 : arg2.IsWhole} {arg3 : Memref sig .tc .vmem S1x256x1024 .f32} {harg3 : arg3.IsWhole} {arg4 : Memref sig .tc .vmem S1x1x256 .f32} {harg4 : arg4.IsWhole} {arg5 : Memref sig .tc .vmem S1x1024x256 .f32} {harg5 : arg5.IsWhole} {arg6 : Memref sig .tc .vmem S1x1x1024 .f32} {harg6 : arg6.IsWhole} {arg7 : Memref sig .tc .vmem S1x1024x256 .f32} {harg7 : arg7.IsWhole} {arg8 : Memref sig .tc .vmem S1x1024x1024 .i8} {harg8 : arg8.IsWhole} {arg9 : Memref sig .tc .vmem S1024x1024 .f32} {harg9 : arg9.IsWhole} {arg10 : Memref sig .tc .vmem S1x1x1024x1 .i32} {harg10 : arg10.IsWhole} {arg11 : Memref sig .tc .smem S1x1x1 .f32} {harg11 : arg11.IsWhole} {arg12 : Memref sig .tc .vmem S2048x1024 .f32} {harg12 : arg12.IsWhole} {arg13 : Memref sig .tc .smem S1 .f32} {harg13 : arg13.IsWhole} {arg14 : Memref sig .tc .vmem S1024x256 .f32} {harg14 : arg14.IsWhole} {arg15 : Memref sig .tc .vmem S1x1024 .f32} {harg15 : arg15.IsWhole} {hc0 : ¬cond0_0 i} {hc1 : ¬cond0_1 i} {hc2 : ¬cond0_2 i} {hc3 : cond0_3 i} {hc4 : cond0_4 i} {hc5 : cond0_5 i} {x0 : Vec Ideal S2048x1024 .f32} {x1 : Vec Ideal S1x256x1024 .f32} {x2 : Vec Ideal S1x1x256 .f32} {x3 : Vec Ideal S1x1024x256 .f32} {x4 : Vec Ideal S1x1x1024 .f32} {x5 : Vec Ideal S1x1024x256 .f32} {x6 : Vec Ideal S1x1024x1024 .i8} {xs0 : Vec Ideal S2048x1024 .f32} {xs1 : Vec Ideal S1 .f32} {xs2 : Vec Ideal S1024x256 .f32} {xs3 : Vec Ideal S1x1024 .f32} :
    sout0_E_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 xs0 xs1 xs2 xs3 = put xs0 i (next (chunk xs0 i) x1 x2 x3 x4 xs2 xs3 x6) := by
  unfold sout0_E_0 kernelRun0_E
  dsimp only
  refine (put_eq _ _ i _ _ _ xs0 ?_).trans ?_
  · exact harg12.read_unread xs0
  · sl_unfold_words
    simp only [View.readAt_eq_ld, Memref.IsWhole.read_unread, View.ld_unit_zero (S := S2048x1024) z2, View.ld_unit_zero (S := S1x256x1024) z3, View.ld_unit_zero (S := S1x1x256) z3, View.ld_unit_zero (S := S1x1024x256) z3, View.ld_unit_zero (S := S1x1x1024) z3, View.ld_unit_zero (S := S1x1024x1024) z3, View.ld_unit_zero (S := S1024x256) z2, View.ld_unit_zero (S := S1x1024) z2, View.ld_unit_zero (S := S1) z1, View.readCov_unit_zero (S := S1024x256) _ z2, View.readCov_unit_zero (S := S1x1024) _ z2, View.readCov_unit_zero (S := S1) _ z1, View.readCov_unit_zero (S := S2048x1024) _ z2]
    exact congrArg (fun r : Vec Ideal S1024x1024 .f32 => put xs0 i (next r x1 x2 x3 x4 xs2 xs3 x6)) (ld_chunk xs0 i _)

end Cert.KernelIdeal.Cases

end
-- ==== Proof.Rows.lean ====
module

public import proofs.«01_k».proof.Proof.Spec

@[expose] public section

noncomputable section

/-!
# The layers of the arrays, and sums over the rows

The arrays of all eight layers' parameters as a sequence of layers; the two thousand and forty eight rows as two batches, or
as two chunks, of a thousand and twenty four.
-/

namespace Cert.Spec
open Idealize.ShloMosaic

/-- Row `t` of batch, or chunk, `b`. -/
def row (b : Fin 2) (t : Fin 1024) : Fin 2048 := ⟨b.val * 1024 + t.val, by omega⟩

/-- A sum over all the rows is the sum over the two halves. -/
theorem sum_rows (g : Fin 2048 → EReal) : ∑ n, g n = ∑ b : Fin 2, ∑ t : Fin 1024, g (row b t) := by
  rw [← Fintype.sum_prod_type' (f := fun b t => g (row b t)), ← (finProdFinEquiv (m := 2) (n := 1024)).sum_comp g]
  refine Finset.sum_congr rfl fun p _ => congrArg g (Fin.ext ?_)
  show p.2.val + 1024 * p.1.val = p.1.val * 1024 + p.2.val
  omega

/-- The layers of the arrays, the eight in turn. -/
def layers (W : Fin 8 → Fin 256 → Fin 1024 → EReal) (bi : Fin 8 → Fin 256 → EReal) (Wo : Fin 8 → Fin 1024 → Fin 256 → EReal)
    (bo : Fin 8 → Fin 1024 → EReal) (C : Fin 8 → Fin 1024 → Fin 256 → EReal) (q : ℕ) : Layer :=
  let i : Fin 8 := ⟨q % 8, Nat.mod_lt _ (by norm_num)⟩
  ⟨W i, bi i, Wo i, bo i, C i⟩

/-- The layer at one of the eight numbers is that layer of the arrays. -/
theorem layers_at (W bi Wo bo C) (q : Fin 8) : layers W bi Wo bo C q.val = ⟨W q, bi q, Wo q, bo q, C q⟩ := by
  have : (⟨q.val % 8, Nat.mod_lt _ (by norm_num)⟩ : Fin 8) = q := Fin.ext (Nat.mod_eq_of_lt q.isLt)
  simp only [layers, this]

/-- The rows of two batches of vectors that stand in columns. -/
def rows (x : Fin 2 → Fin 1024 → Fin 1024 → EReal) (n : Fin 2048) (d : Fin 1024) : EReal :=
  x ⟨n.val / 1024, by omega⟩ d ⟨n.val % 1024, Nat.mod_lt _ (by norm_num)⟩

/-- Row `t` of batch `b` is that batch's column. -/
theorem rows_row (x : Fin 2 → Fin 1024 → Fin 1024 → EReal) (b : Fin 2) (t : Fin 1024) (d : Fin 1024) : rows x (row b t) d = x b d t := by
  have h1 : (⟨(row b t).val / 1024, by omega⟩ : Fin 2) = b := Fin.ext (by show (b.val * 1024 + t.val) / 1024 = b.val; omega)
  have h2 : (⟨(row b t).val % 1024, Nat.mod_lt _ (by norm_num)⟩ : Fin 1024) = t := Fin.ext (by show (b.val * 1024 + t.val) % 1024 = t.val; omega)
  unfold rows
  rw [h1, h2]

end Cert.Spec

end
-- ==== Proof.Step.lean ====
module

public import proofs.«01_k».proof.Proof.Cases
public import proofs.«01_k».proof.Proof.Rows

@[expose] public section

noncomputable section

/-!
# One grid point as a layer

What the kernel computes for its rows at one grid point is what the layer says: the codes, the error sum, the next residuals.
-/

namespace Cert.KernelIdeal.Step
open Idealize.ShloMosaic Cert.KernelIdeal Cert.KernelIdeal.Gen Cert.KernelIdeal.Pay Cert.KernelIdeal.Cases Cert.Spec

/-- The blocks of one layer's parameters: the layer `L`, whose codebook's words are `cw`. -/
structure Params (L : Layer) (cw : Fin 1024 → Fin 256 → BitVec 32) (W : Vec Ideal S1x256x1024 .f32) (bi : Vec Ideal S1x1x256 .f32)
    (Wo : Vec Ideal S1x1024x256 .f32) (bo : Vec Ideal S1x1x1024 .f32) (cb : Vec Ideal S1x1024x256 .f32) (pl : Vec Ideal S1x1024x1024 .i8) : Prop where
  W : ∀ e d, W (ix3 0 e d) = L.W e d
  bi : ∀ e, bi (ix3 0 0 e) = L.bi e
  Wo : ∀ d e, Wo (ix3 0 d e) = L.Wo d e
  bo : ∀ d, bo (ix3 0 0 d) = L.bo d
  cb : ∀ k e, cb (ix3 0 k e) = L.C k e
  C : ∀ k e, L.C k e = Ideal.ofBits .f32 (cw k e)
  pl : ∀ k (p : Fin 4) (l : Fin 1024) (e : Fin 256), l.val = 256 * p.val + e.val → pl (ix3 0 k l) = planeByte (cw k e) p

/-- The normalised codebook of a layer. -/
structure Codebook (L : Layer) (cn : Vec Ideal S1024x256 .f32) (cn2 : Vec Ideal S1x1024 .f32) : Prop where
  cn : ∀ k e, cn (ix2 k e) = unit (L.C k) e
  cn2 : ∀ k, cn2 (ix2 0 k) = sumsq (unit (L.C k))

variable {L : Layer} {cw : Fin 1024 → Fin 256 → BitVec 32} {W : Vec Ideal S1x256x1024 .f32} {bi : Vec Ideal S1x1x256 .f32}
  {Wo : Vec Ideal S1x1024x256 .f32} {bo : Vec Ideal S1x1x1024 .f32} {cb : Vec Ideal S1x1024x256 .f32} {pl : Vec Ideal S1x1024x1024 .i8}
  {cn : Vec Ideal S1024x256 .f32} {cn2 : Vec Ideal S1x1024 .f32} {r : Vec Ideal S1024x1024 .f32} {R : Fin 1024 → Fin 1024 → EReal}

/-- The kernel's normalised codebook is the layer's. -/
theorem codebook (p : Params L cw W bi Wo bo cb pl) : Codebook L (k0_pay3 (F := Ideal) cb) (k0_pay4 (F := Ideal) cb) := by
  have e (k : Fin 1024) : (fun e => cb (ix3 0 k e)) = L.C k := funext fun e => p.cb k e
  constructor
  · intro k x
    rw [pay3_apply, e]
  · intro k
    rw [pay4_apply, e]

/-- The kernel's code vectors are the layer's. -/
theorem vec (p : Params L cw W bi Wo bo cb pl) (hr : ∀ n d, r (ix2 n d) = R n d) (n : Fin 1024) (e : Fin 256) :
    k0_pay5 (F := Ideal) r W bi (ix2 n e) = enc L (R n) e := by
  rw [pay5_apply, p.bi]
  simp only [hr, p.W]
  rfl

/-- The kernel's choice of a codebook row is the layer's. -/
theorem choice (p : Params L cw W bi Wo bo cb pl) (h : Codebook L cn cn2) (hr : ∀ n d, r (ix2 n d) = R n d) (n : Fin 1024) :
    k0_pay7 (F := Ideal) (k0_pay6 r W bi cn) cn2 (ix2 n 0) = BitVec.ofNat 32 (code L (enc L (R n))).val := by
  have e : (fun e => k0_pay5 (F := Ideal) r W bi (ix2 n e)) = enc L (R n) := funext fun e => vec p hr n e
  rw [pay7_apply]
  simp only [pay6_apply, e, h.cn, h.cn2]
  rfl

/-- The codes. -/
theorem codes_apply (p : Params L cw W bi Wo bo cb pl) (h : Codebook L cn cn2) (hr : ∀ n d, r (ix2 n d) = R n d) (n : Fin 1024) :
    codes r W bi cn cn2 (ix4 0 0 n 0) = BitVec.ofNat 32 (code L (enc L (R n))).val := by
  unfold codes
  rw [pay8_apply]
  exact choice p h hr n

/-- The codebook rows looked up. -/
theorem lookup (p : Params L cw W bi Wo bo cb pl) (h : Codebook L cn cn2) (hr : ∀ n d, r (ix2 n d) = R n d) (n : Fin 1024) (e : Fin 256) :
    k0_pay12 (F := Ideal) (k0_pay10 (k0_pay6 r W bi cn) cn2 pl) (k0_pay11 (k0_pay6 r W bi cn) cn2 pl) 24#32 (ix2 n e) = dec L (enc L (R n)) e := by
  rw [pay12_apply _ _ _ n (code L (enc L (R n))) e (cw (code L (enc L (R n))) e) (choice p h hr n) (fun q l hl => p.pl _ q l e hl), ← p.C]
  rfl

/-- The error sum. -/
theorem errs_eq (p : Params L cw W bi Wo bo cb pl) (h : Codebook L cn cn2) (hr : ∀ n d, r (ix2 n d) = R n d) :
    errs r W bi cn cn2 pl = ∑ n, err L (enc L (R n)) := by
  unfold errs
  rw [pay13_apply]
  simp only [lookup p h hr, vec p hr]
  rfl

/-- The layer's output and the next residual. -/
theorem step (p : Params L cw W bi Wo bo cb pl) (h : Codebook L cn cn2) (hr : ∀ n d, r (ix2 n d) = R n d) (n d : Fin 1024) :
    k0_pay16 (F := Ideal) r (k0_pay5 r W bi) (k0_pay10 (k0_pay6 r W bi cn) cn2 pl) (k0_pay11 (k0_pay6 r W bi cn) cn2 pl) 24#32 Wo bo (ix2 n d)
      = R n d - out L (enc L (R n)) d := by
  rw [pay16_apply]
  simp only [lookup p h hr, vec p hr, hr, p.Wo, p.bo]
  rfl

/-- The next residuals. -/
theorem next_apply (p : Params L cw W bi Wo bo cb pl) (h : Codebook L cn cn2) (hr : ∀ n d, r (ix2 n d) = R n d) (n d : Fin 1024) :
    next r W bi Wo bo cn cn2 pl (ix2 n d) = R n d - out L (enc L (R n)) d := by
  unfold next
  rw [pay17_apply]
  exact step p h hr n d

/-- What is left of `x` once the next residual is taken away. -/
theorem outs_apply (p : Params L cw W bi Wo bo cb pl) (h : Codebook L cn cn2) (hr : ∀ n d, r (ix2 n d) = R n d) (x : Vec Ideal S1024x1024 .f32) (n d : Fin 1024) :
    outs r x W bi Wo bo cn cn2 pl (ix2 n d) = x (ix2 n d) - (R n d - out L (enc L (R n)) d) := by
  unfold outs
  rw [pay18_apply]
  exact congrArg (fun y : EReal => x (ix2 n d) - y) (step p h hr n d)

/-- The copy of the rows that the first point stores. -/
theorem pay1_eq (x : Vec Ideal S2048x1024 .f32) : k0_pay1 (F := Ideal) x = x := by
  unfold k0_pay1
  simp only [shapeCast_self]

/-- The loss of an error sum. -/
theorem pay15_eq (s : Ideal .f32) : k0_pay15 (F := Ideal) s = Ideal.div s cnt * quarter + Ideal.div s cnt := rfl

end Cert.KernelIdeal.Step

end
-- ==== Proof.Inv.lean ====
module

public import proofs.«01_k».proof.Proof.Step

@[expose] public section

set_option maxRecDepth 16384

noncomputable section

/-!
# The sixteen grid points

Point `t` quantises chunk `t % 2` of the rows with layer `t / 2`. What each point leaves in its blocks and in the scratch
follows from what the point before left, by the five cases of the kernel's branches.
-/

namespace Cert.KernelIdeal.Inv
open Idealize.ShloMosaic Cert.KernelIdeal Cert.KernelIdeal.Gen Cert.KernelIdeal.Cases Cert.KernelIdeal.Step Cert.Spec

/-- The second grid coordinate of point `t` is its chunk. -/
theorem coord_one : ∀ t : Fin grid0.N, ((grid0.coords t) 1).val = t.val % 2 := by decide +kernel

/-- The first grid coordinate of point `t` is its layer. -/
theorem coord_zero : ∀ t : Fin grid0.N, ((grid0.coords t) 0).val = t.val / 2 := by decide +kernel

/-- The last two points work on the last layer. -/
theorem last : ∀ t : Fin grid0.N, 14 ≤ t.val → t.val / 2 = 7 := by decide +kernel

/-- The chunk of point `t`. -/
def half (t : ℕ) : Fin 2 := ⟨t % 2, Nat.mod_lt _ (by decide)⟩

variable (P : ℕ → Layer) (X : Fin 2048 → Fin 1024 → EReal)

/-- The residuals before point `t`: each row has been through the layers of the points below `t` that work on its chunk. -/
def Before (t : ℕ) (r : Vec Ideal S2048x1024 .f32) : Prop :=
  ∀ n d, r (ix2 n d) = res P (X n) ((t + 1 - n.val / 1024) / 2) d

/-- The sum of the errors of chunk `b` at layer `q`. -/
def part (q : ℕ) (b : Fin 2) : EReal := ∑ n : Fin 1024, err (P q) (code_vec P (X (row b n)) q)

variable {P X}

/-- The rows a point loads of an array. -/
theorem chunk_apply (t : Fin grid0.N) (r : Vec Ideal S2048x1024 .f32) (n d : Fin 1024) :
    chunk r (grid0.coords t) (ix2 n d) = r (ix2 (row (half t.val) n) d) := by
  have hb := coord_one t
  have e : (⟨1024 * ((grid0.coords t) 1).val + n.val, by omega⟩ : Fin 2048) = row (half t.val) n := by
    apply Fin.ext
    simp only [row, half, hb]
    omega
  unfold chunk
  exact congrArg (fun i => r (ix2 i d)) e

/-- The rows a point loads are the residuals of its chunk at its layer. -/
theorem chunk_before {t : Fin grid0.N} {r : Vec Ideal S2048x1024 .f32} (h : Before P X t.val r) (n d : Fin 1024) :
    chunk r (grid0.coords t) (ix2 n d) = res P (X (row (half t.val) n)) (t.val / 2) d := by
  have hq : (t.val + 1 - (row (half t.val) n).val / 1024) / 2 = t.val / 2 := by
    simp only [row, half]
    omega
  rw [chunk_apply, h, hq]

/-- The rows a point stores bring the residuals to the next point. -/
theorem put_before {t : Fin grid0.N} {r : Vec Ideal S2048x1024 .f32} {w : Vec Ideal S1024x1024 .f32} (h : Before P X t.val r)
    (hw : ∀ n d, w (ix2 n d) = res P (X (row (half t.val) n)) (t.val / 2 + 1) d) : Before P X (t.val + 1) (put r (grid0.coords t) w) := by
  intro n d
  have hb := coord_one t
  have hn := n.isLt
  unfold put
  by_cases hc : 1024 * ((grid0.coords t) 1).val ≤ n.val ∧ n.val < 1024 * ((grid0.coords t) 1).val + 1024
  · refine (dif_pos hc).trans ?_
    refine (hw ⟨n.val - 1024 * ((grid0.coords t) 1).val, by omega⟩ d).trans ?_
    have e : row (half t.val) ⟨n.val - 1024 * ((grid0.coords t) 1).val, by omega⟩ = n := by
      apply Fin.ext
      simp only [row, half]
      omega
    rw [e]
    congr 1
    omega
  · refine (dif_neg hc).trans ((h n d).trans ?_)
    congr 1
    omega

/-- What a point leaves: `o7`, `o8` and `o9` in its output blocks, `r` and `acc`, `cn`, `cn2` in the scratch. -/
structure After (P : ℕ → Layer) (X : Fin 2048 → Fin 1024 → EReal) (t : ℕ) (o7 : Vec Ideal S1024x1024 .f32) (o8 : Vec Ideal S1x1x1024x1 .i32) (o9 : Vec Ideal S1x1x1 .f32)
    (r : Vec Ideal S2048x1024 .f32) (acc : Vec Ideal S1 .f32) (cn : Vec Ideal S1024x256 .f32) (cn2 : Vec Ideal S1x1024 .f32) : Prop where
  res : Before P X (t + 1) r
  book : Codebook (P (t / 2)) cn cn2
  acc : t % 2 = 0 → acc (ix1 0) = part P X (t / 2) 0
  codes : ∀ n, o8 (ix4 0 0 n 0) = BitVec.ofNat 32 (code (P (t / 2)) (code_vec P (X (row (half t) n)) (t / 2))).val
  loss : t % 2 = 1 → o9 (ix3 0 0 0) = loss P X (t / 2)
  outs : 14 ≤ t → ∀ n d, o7 (ix2 n d) = X (row (half t) n) d - Cert.Spec.res P (X (row (half t) n)) 8 d

/-- The two chunks' error sums make the layer's loss. -/
theorem loss_parts (q : ℕ) : k0_pay15 (F := Ideal) (part P X q 0 + part P X q 1) = loss P X q := by
  rw [pay15_eq]
  unfold loss
  rw [sum_rows, Fin.sum_univ_two]
  rfl

/-- `outsAt0` named component by component. -/
def Good (P : ℕ → Layer) (X : Fin 2048 → Fin 1024 → EReal) (t : ℕ)
    (o : Vec Ideal S1024x1024 .f32 × Vec Ideal S1x1x1024x1 .i32 × Vec Ideal S1x1x1 .f32 × Vec Ideal S2048x1024 .f32 × Vec Ideal S1 .f32 × Vec Ideal S1024x256 .f32 × Vec Ideal S1x1024 .f32) : Prop :=
  After P X t o.1 o.2.1 o.2.2.1 o.2.2.2.1 o.2.2.2.2.1 o.2.2.2.2.2.1 o.2.2.2.2.2.2

variable {cw : ℕ → Fin 1024 → Fin 256 → BitVec 32}

section
variable {t : Fin cfg0.N} {L : Layer} {W : Vec Ideal S1x256x1024 .f32} {bi : Vec Ideal S1x1x256 .f32}
  {Wo : Vec Ideal S1x1024x256 .f32} {bo : Vec Ideal S1x1x1024 .f32} {cb : Vec Ideal S1x1024x256 .f32} {pl : Vec Ideal S1x1024x1024 .i8}
  {x r : Vec Ideal S2048x1024 .f32} {cn : Vec Ideal S1024x256 .f32} {cn2 : Vec Ideal S1x1024 .f32}

/-- A first point of a layer, before the last layer or in it. -/
theorem even (h0 : t.val % 2 = 0) (p : Params (P (t.val / 2)) (cw (t.val / 2)) W bi Wo bo cb pl) (hx : ∀ n d, x (ix2 n d) = X n d)
    (h : Before P X t.val r) (o7 : Vec Ideal S1024x1024 .f32) (o9 : Vec Ideal S1x1x1 .f32)
    (ho : 14 ≤ t.val → o7 = Cases.outs (chunk r (grid0.coords t)) (chunk x (grid0.coords t)) W bi Wo bo (k0_pay3 cb) (k0_pay4 cb) pl) :
    After P X t.val o7 (Cases.codes (chunk r (grid0.coords t)) W bi (k0_pay3 cb) (k0_pay4 cb)) o9
      (put r (grid0.coords t) (next (chunk r (grid0.coords t)) W bi Wo bo (k0_pay3 cb) (k0_pay4 cb) pl))
      (fun _ => errs (chunk r (grid0.coords t)) W bi (k0_pay3 cb) (k0_pay4 cb) pl) (k0_pay3 cb) (k0_pay4 cb) := by
  have hr := fun n d => chunk_before h n d
  have k := codebook p
  have hh : half t.val = 0 := Fin.ext h0
  refine ⟨put_before h fun n d => next_apply p k hr n d, k, fun _ => ?_, fun n => codes_apply p k hr n, fun h1 => by omega, fun h14 n d => ?_⟩
  · refine (errs_eq p k hr).trans ?_
    rw [hh]
    rfl
  · rw [ho h14, outs_apply p k hr]
    have hq := last t h14
    rw [chunk_apply, hx, hq]
    rfl

/-- A second point of a layer, before the last layer or in it. -/
theorem odd (h0 : t.val % 2 = 1) (p : Params (P (t.val / 2)) (cw (t.val / 2)) W bi Wo bo cb pl) (hx : ∀ n d, x (ix2 n d) = X n d)
    (k : Codebook (P (t.val / 2)) cn cn2) (acc : Vec Ideal S1 .f32) (ha : acc (ix1 0) = part P X (t.val / 2) 0)
    (h : Before P X t.val r) (o7 : Vec Ideal S1024x1024 .f32)
    (ho : 14 ≤ t.val → o7 = Cases.outs (chunk r (grid0.coords t)) (chunk x (grid0.coords t)) W bi Wo bo cn cn2 pl) :
    After P X t.val o7 (Cases.codes (chunk r (grid0.coords t)) W bi cn cn2)
      (fun _ => k0_pay15 (Scalar.addf (φ := .f32) (acc (ix1 (n0 := 1) 0)) (errs (chunk r (grid0.coords t)) W bi cn cn2 pl)))
      (put r (grid0.coords t) (next (chunk r (grid0.coords t)) W bi Wo bo cn cn2 pl))
      (fun _ => Scalar.addf (φ := .f32) (acc (ix1 (n0 := 1) 0)) (errs (chunk r (grid0.coords t)) W bi cn cn2 pl)) cn cn2 := by
  have hr := fun n d => chunk_before h n d
  have hh : half t.val = 1 := Fin.ext h0
  refine ⟨put_before h fun n d => next_apply p k hr n d, k, fun h1 => by omega, fun n => codes_apply p k hr n, fun h1 => ?_, fun h14 n d => ?_⟩
  · have e := errs_eq p k hr
    rw [hh] at e
    rw [← loss_parts, ha, e]
    rfl
  · rw [ho h14, outs_apply p k hr]
    have hq := last t h14
    rw [chunk_apply, hx, hq]
    rfl
end

variable (m : (g : Loc nD τ sig) → Buf (Elt Ideal) g) (c : Dev nD)

/-- Every point leaves what it should, when the blocks hold the layers' parameters and the input rows. -/
theorem good (hp : ∀ t : Fin cfg0.N, Params (P (t.val / 2)) (cw (t.val / 2)) (iblk m c 1 t) (iblk m c 2 t) (iblk m c 3 t) (iblk m c 4 t) (iblk m c 5 t) (iblk m c 6 t))
    (hx : ∀ (t : Fin cfg0.N) n d, (iblk m c 0 t : Vec Ideal S2048x1024 .f32) (ix2 n d) = X n d) :
    ∀ (n : ℕ) (h : n < cfg0.N), Good P X n (outsAt0 m c n h) := by
  intro n
  induction n with
  | zero =>
    intro h
    unfold Good
    rw [outsAt0_A m c ⟨0, h⟩ rfl rfl rfl Nat.zero_ne_one Nat.zero_ne_one (Nat.not_le.mpr (Nat.zero_lt_succ 13))]
    dsimp only
    rw [A_codes, A_acc, A_cn, A_cn2, A_res, pay1_eq]
    exact even (t := ⟨0, h⟩) rfl (hp _) (hx ⟨0, h⟩) (fun n d => by
      have e : (0 + 1 - n.val / 1024) / 2 = 0 := by omega
      rw [hx]; show _ = res P (X n) ((0 + 1 - n.val / 1024) / 2) d; rw [e]; rfl) _ _ (fun h14 => absurd h14 (Nat.not_le.mpr (Nat.zero_lt_succ 13)))
  | succ n ih =>
    intro h
    have g := ih (Nat.lt_of_succ_lt h)
    have h16 : n + 1 < 16 := h
    have a0 : ¬(n + 1) % 16 = 0 := by omega
    by_cases h2 : (n + 1) % 2 = 0
    · have h1 : ¬(n + 1) % 2 = 1 := by omega
      by_cases h14 : 14 ≤ n + 1
      · unfold Good
        rw [outsAt0_D m c ⟨n + 1, h⟩ a0 h2 h2 h1 h1 h14]
        dsimp only
        rw [D_codes, D_acc, D_cn, D_cn2, D_res]
        exact even (t := ⟨n + 1, h⟩) h2 (hp _) (hx ⟨n + 1, h⟩) g.res _ _ (fun _ => D_outs)
      · unfold Good
        rw [outsAt0_C m c ⟨n + 1, h⟩ a0 h2 h2 h1 h1 h14]
        dsimp only
        rw [C_codes, C_acc, C_cn, C_cn2, C_res]
        exact even (t := ⟨n + 1, h⟩) h2 (hp _) (hx ⟨n + 1, h⟩) g.res _ _ (fun h => absurd h h14)
    · have h1 : (n + 1) % 2 = 1 := by omega
      have hn : n % 2 = 0 := by omega
      have hq : (n + 1) / 2 = n / 2 := by omega
      by_cases h14 : 14 ≤ n + 1
      · unfold Good
        rw [outsAt0_E m c ⟨n + 1, h⟩ a0 h2 h2 h1 h1 h14]
        dsimp only
        rw [E_codes, E_acc, E_loss, E_res]
        exact odd (t := ⟨n + 1, h⟩) h1 (hp _) (hx ⟨n + 1, h⟩) (hq ▸ g.book) _ ((g.acc hn).trans (by rw [hq])) g.res _ (fun _ => E_outs)
      · unfold Good
        rw [outsAt0_B m c ⟨n + 1, h⟩ a0 h2 h2 h1 h1 h14]
        dsimp only
        rw [B_codes, B_acc, B_loss, B_res]
        exact odd (t := ⟨n + 1, h⟩) h1 (hp _) (hx ⟨n + 1, h⟩) (hq ▸ g.book) _ ((g.acc hn).trans (by rw [hq])) g.res _ (fun h => absurd h h14)

end Cert.KernelIdeal.Inv

end
-- ==== Proof.Blocks.lean ====
module

public import proofs.«01_k».proof.Proof.Inv
public import Idealize.ShloMosaic.Lib.StableHlo.ReadAt

@[expose] public section

set_option maxRecDepth 16384

noncomputable section

/-!
# The blocks the kernel fetches

What the operations before the kernel make of the arguments, read at an index, and each window's block of it.
-/

namespace Cert.KernelIdeal.Blocks
open Idealize.ShloMosaic Cert.KernelIdeal Cert.KernelIdeal.Gen Cert.KernelIdeal.Pay Cert.KernelIdeal.Step Cert.KernelIdeal.Inv Cert.Spec

variable (m : (g : Loc nD τ sig) → Buf (Elt Ideal) g) (c : Dev nD)

/-- The layers the arguments hold. -/
def P : ℕ → Layer :=
  layers (fun q e d => m ((c.tc : Thread nD τ).loc main_arg1) (ix3 q e d)) (fun q e => m ((c.tc : Thread nD τ).loc main_arg2) (ix2 q e))
    (fun q d e => m ((c.tc : Thread nD τ).loc main_arg3) (ix3 q d e)) (fun q d => m ((c.tc : Thread nD τ).loc main_arg4) (ix2 q d))
    (fun q j e => Ideal.ofBits .f32 (m ((c.tc : Thread nD τ).loc main_arg5) (ix3 q j e)))

/-- The rows the arguments hold. -/
def X : Fin 2048 → Fin 1024 → EReal := rows fun b d t => m ((c.tc : Thread nD τ).loc main_arg0) (ix3 b d t)

/-- The words of the codebooks. -/
def cw (q : ℕ) (k : Fin 1024) (e : Fin 256) : BitVec 32 :=
  if h : q < 8 then m ((c.tc : Thread nD τ).loc main_arg5) (ix3 ⟨q, h⟩ k e) else 0#32

/-- The rows, transposed and flattened. -/
theorem read_v2 (n : Fin 2048) (d : Fin 1024) : V m c main_v2 (ix2 n d) = X m c n d := by
  show StableHlo.after hostOps0 (fun b => m (c, b)) (Proc.devRef .tc main_v2) (ix2 n d) = _
  after_reads_at
  rfl

/-- The biases of the first projection, with a unit axis. -/
theorem read_v3 (q : Fin 8) (e : Fin 256) : V m c main_v3 (ix3 q 0 e) = m ((c.tc : Thread nD τ).loc main_arg2) (ix2 q e) := by
  show StableHlo.after hostOps0 (fun b => m (c, b)) (Proc.devRef .tc main_v3) (ix3 q 0 e) = _
  after_reads_at

/-- The biases of the second projection, with a unit axis. -/
theorem read_v4 (q : Fin 8) (d : Fin 1024) : V m c main_v4 (ix3 q 0 d) = m ((c.tc : Thread nD τ).loc main_arg4) (ix2 q d) := by
  show StableHlo.after hostOps0 (fun b => m (c, b)) (Proc.devRef .tc main_v4) (ix3 q 0 d) = _
  after_reads_at

/-- The codebooks' numbers. -/
theorem read_v0 (q : Fin 8) (k : Fin 1024) (e : Fin 256) :
    V m c main_v0 (ix3 q k e) = Ideal.ofBits .f32 (m ((c.tc : Thread nD τ).loc main_arg5) (ix3 q k e)) := by
  show StableHlo.after hostOps0 (fun b => m (c, b)) (Proc.devRef .tc main_v0) (ix3 q k e) = _
  after_reads_at

/-- A byte of a word, less 128, as the host takes it. -/
theorem byte (x : BitVec 32) (p : Fin 4) :
    BitVec.setWidth 8 (IntOp.subi (IntOp.andi (IntOp.shrui ArithUnit.host x (BitVec.ofNat 32 (8 * p.val))) 255#32) 128#32) = planeByte x p := by
  match p with
  | 0 | 1 | 2 | 3 => rfl

/-- The codebooks' bytes, side by side. -/
theorem read_v33 (q : Fin 8) (k : Fin 1024) (e : Fin 256) (p : Fin 4) (l : Fin 1024) (hl : l.val = 256 * p.val + e.val) :
    V m c main_v33 (ix3 q k l) = planeByte (m ((c.tc : Thread nD τ).loc main_arg5) (ix3 q k e)) p := by
  show StableHlo.after hostOps0 (fun b => m (c, b)) (Proc.devRef .tc main_v33) (ix3 q k l) = _
  after_reads_at
  have he := e.isLt
  match p, hl with
  | 0, hl =>
    simp at hl
    have e0 : (⟨l.val, by omega⟩ : Fin 256) = e := Fin.ext hl
    rw [dif_pos (by omega), e0]
    after_reads_at
    exact byte _ 0
  | 1, hl =>
    simp at hl
    have e0 : (⟨l.val - 256, by omega⟩ : Fin 256) = e := Fin.ext (by simp; omega)
    rw [dif_neg (by omega), dif_pos (by omega), e0]
    after_reads_at
    exact byte _ 1
  | 2, hl =>
    simp at hl
    have e0 : (⟨l.val - 256 - 256, by omega⟩ : Fin 256) = e := Fin.ext (by simp; omega)
    rw [dif_neg (by omega), dif_neg (by omega), dif_pos (by omega), e0]
    after_reads_at
    exact byte _ 2
  | 3, hl =>
    simp at hl
    have e0 : (⟨l.val - 256 - 256 - 256, by omega⟩ : Fin 256) = e := Fin.ext (by simp; omega)
    rw [dif_neg (by omega), dif_neg (by omega), dif_neg (by omega), e0]
    after_reads_at
    exact byte _ 3

/-- Where input window 0's block lies at each point. -/
theorem at0 : ∀ t : Fin grid0.N, cc0_transform_0 (grid0.coords t) = ![0, 0] := by decide +kernel
/-- Where input window 1's block lies at each point. -/
theorem at1 : ∀ t : Fin grid0.N, cc0_transform_1 (grid0.coords t) = ![t.val / 2, 0, 0] := by decide +kernel
/-- Where input window 2's block lies at each point. -/
theorem at2 : ∀ t : Fin grid0.N, cc0_transform_2 (grid0.coords t) = ![t.val / 2, 0, 0] := by decide +kernel
/-- Where input window 3's block lies at each point. -/
theorem at3 : ∀ t : Fin grid0.N, cc0_transform_3 (grid0.coords t) = ![t.val / 2, 0, 0] := by decide +kernel
/-- Where input window 4's block lies at each point. -/
theorem at4 : ∀ t : Fin grid0.N, cc0_transform_4 (grid0.coords t) = ![t.val / 2, 0, 0] := by decide +kernel
/-- Where input window 5's block lies at each point. -/
theorem at5 : ∀ t : Fin grid0.N, cc0_transform_5 (grid0.coords t) = ![t.val / 2, 0, 0] := by decide +kernel
/-- Where input window 6's block lies at each point. -/
theorem at6 : ∀ t : Fin grid0.N, cc0_transform_6 (grid0.coords t) = ![t.val / 2, 0, 0] := by decide +kernel

/-- The block of the rows is all of them. -/
theorem blk0 (t : Fin cfg0.N) (n : Fin 2048) (d : Fin 1024) : (iblk m c 0 t : Vec Ideal S2048x1024 .f32) (ix2 n d) = X m c n d := by
  refine Eq.trans ?_ (read_v2 m c n d)
  unfold iblk
  rw [View.read_apply]
  show V m c main_v2 _ = V m c main_v2 _
  congr 1
  funext a
  apply Fin.ext
  match a with
  | ⟨0, _⟩ => show cc0_transform_0 (grid0.coords t) 0 * 2048 + 1 * n.val = n.val; rw [at0]; simp
  | ⟨1, _⟩ => show cc0_transform_0 (grid0.coords t) 1 * 1024 + 1 * d.val = d.val; rw [at0]; simp

/-- The block of the first projection is its layer's. -/
theorem blk1 (t : Fin cfg0.N) (h : t.val / 2 < 8) (a : Fin 256) (b : Fin 1024) :
    (iblk m c 1 t : Vec Ideal S1x256x1024 .f32) (ix3 0 a b) = V m c main_arg1 (ix3 ⟨t.val / 2, h⟩ a b) := by
  unfold iblk
  rw [View.read_apply]
  show V m c main_arg1 _ = V m c main_arg1 _
  congr 1
  funext x
  apply Fin.ext
  match x with
  | ⟨0, _⟩ => show cc0_transform_1 (grid0.coords t) 0 * 1 + 1 * 0 = t.val / 2; rw [at1]; simp
  | ⟨1, _⟩ => show cc0_transform_1 (grid0.coords t) 1 * 256 + 1 * a.val = a.val; rw [at1]; simp
  | ⟨2, _⟩ => show cc0_transform_1 (grid0.coords t) 2 * 1024 + 1 * b.val = b.val; rw [at1]; simp

/-- The block of the first projection's biases is its layer's. -/
theorem blk2 (t : Fin cfg0.N) (h : t.val / 2 < 8) (a : Fin 1) (b : Fin 256) :
    (iblk m c 2 t : Vec Ideal S1x1x256 .f32) (ix3 0 a b) = V m c main_v3 (ix3 ⟨t.val / 2, h⟩ a b) := by
  unfold iblk
  rw [View.read_apply]
  show V m c main_v3 _ = V m c main_v3 _
  congr 1
  funext x
  apply Fin.ext
  match x with
  | ⟨0, _⟩ => show cc0_transform_2 (grid0.coords t) 0 * 1 + 1 * 0 = t.val / 2; rw [at2]; simp
  | ⟨1, _⟩ => show cc0_transform_2 (grid0.coords t) 1 * 1 + 1 * a.val = a.val; rw [at2]; simp
  | ⟨2, _⟩ => show cc0_transform_2 (grid0.coords t) 2 * 256 + 1 * b.val = b.val; rw [at2]; simp

/-- The block of the second projection is its layer's. -/
theorem blk3 (t : Fin cfg0.N) (h : t.val / 2 < 8) (a : Fin 1024) (b : Fin 256) :
    (iblk m c 3 t : Vec Ideal S1x1024x256 .f32) (ix3 0 a b) = V m c main_arg3 (ix3 ⟨t.val / 2, h⟩ a b) := by
  unfold iblk
  rw [View.read_apply]
  show V m c main_arg3 _ = V m c main_arg3 _
  congr 1
  funext x
  apply Fin.ext
  match x with
  | ⟨0, _⟩ => show cc0_transform_3 (grid0.coords t) 0 * 1 + 1 * 0 = t.val / 2; rw [at3]; simp
  | ⟨1, _⟩ => show cc0_transform_3 (grid0.coords t) 1 * 1024 + 1 * a.val = a.val; rw [at3]; simp
  | ⟨2, _⟩ => show cc0_transform_3 (grid0.coords t) 2 * 256 + 1 * b.val = b.val; rw [at3]; simp

/-- The block of the second projection's biases is its layer's. -/
theorem blk4 (t : Fin cfg0.N) (h : t.val / 2 < 8) (a : Fin 1) (b : Fin 1024) :
    (iblk m c 4 t : Vec Ideal S1x1x1024 .f32) (ix3 0 a b) = V m c main_v4 (ix3 ⟨t.val / 2, h⟩ a b) := by
  unfold iblk
  rw [View.read_apply]
  show V m c main_v4 _ = V m c main_v4 _
  congr 1
  funext x
  apply Fin.ext
  match x with
  | ⟨0, _⟩ => show cc0_transform_4 (grid0.coords t) 0 * 1 + 1 * 0 = t.val / 2; rw [at4]; simp
  | ⟨1, _⟩ => show cc0_transform_4 (grid0.coords t) 1 * 1 + 1 * a.val = a.val; rw [at4]; simp
  | ⟨2, _⟩ => show cc0_transform_4 (grid0.coords t) 2 * 1024 + 1 * b.val = b.val; rw [at4]; simp

/-- The block of the codebook is its layer's. -/
theorem blk5 (t : Fin cfg0.N) (h : t.val / 2 < 8) (a : Fin 1024) (b : Fin 256) :
    (iblk m c 5 t : Vec Ideal S1x1024x256 .f32) (ix3 0 a b) = V m c main_v0 (ix3 ⟨t.val / 2, h⟩ a b) := by
  unfold iblk
  rw [View.read_apply]
  show V m c main_v0 _ = V m c main_v0 _
  congr 1
  funext x
  apply Fin.ext
  match x with
  | ⟨0, _⟩ => show cc0_transform_5 (grid0.coords t) 0 * 1 + 1 * 0 = t.val / 2; rw [at5]; simp
  | ⟨1, _⟩ => show cc0_transform_5 (grid0.coords t) 1 * 1024 + 1 * a.val = a.val; rw [at5]; simp
  | ⟨2, _⟩ => show cc0_transform_5 (grid0.coords t) 2 * 256 + 1 * b.val = b.val; rw [at5]; simp

/-- The block of the codebook's bytes is its layer's. -/
theorem blk6 (t : Fin cfg0.N) (h : t.val / 2 < 8) (a : Fin 1024) (b : Fin 1024) :
    (iblk m c 6 t : Vec Ideal S1x1024x1024 .i8) (ix3 0 a b) = V m c main_v33 (ix3 ⟨t.val / 2, h⟩ a b) := by
  unfold iblk
  rw [View.read_apply]
  show V m c main_v33 _ = V m c main_v33 _
  congr 1
  funext x
  apply Fin.ext
  match x with
  | ⟨0, _⟩ => show cc0_transform_6 (grid0.coords t) 0 * 1 + 1 * 0 = t.val / 2; rw [at6]; simp
  | ⟨1, _⟩ => show cc0_transform_6 (grid0.coords t) 1 * 1024 + 1 * a.val = a.val; rw [at6]; simp
  | ⟨2, _⟩ => show cc0_transform_6 (grid0.coords t) 2 * 1024 + 1 * b.val = b.val; rw [at6]; simp

/-- At every point the blocks hold the parameters of its layer. -/
theorem params (t : Fin cfg0.N) : Params (P m c (t.val / 2)) (cw m c (t.val / 2)) (iblk m c 1 t) (iblk m c 2 t) (iblk m c 3 t) (iblk m c 4 t) (iblk m c 5 t) (iblk m c 6 t) := by
  have h : t.val / 2 < 8 := by
    have h16 : t.val < 16 := t.isLt
    omega
  have e : P m c (t.val / 2) = _ := layers_at _ _ _ _ _ (⟨t.val / 2, h⟩ : Fin 8)
  rw [e]
  refine ⟨fun a b => ?_, fun b => ?_, fun a b => ?_, fun b => ?_, fun a b => ?_, fun a b => ?_, fun k p l e hl => ?_⟩
  · rw [blk1 m c t h, V_main_arg1]
  · rw [blk2 m c t h, read_v3]
  · rw [blk3 m c t h, V_main_arg3]
  · rw [blk4 m c t h, read_v4]
  · rw [blk5 m c t h, read_v0]
  · rw [cw, dif_pos h]
  · rw [blk6 m c t h, read_v33 m c _ k e p l hl, cw, dif_pos h]

/-- Every point leaves what it should. -/
theorem good (n : ℕ) (h : n < cfg0.N) : Good (P m c) (X m c) n (outsAt0 m c n h) :=
  Inv.good m c (fun t => params m c t) (fun t n d => blk0 m c t n d) n h

end Cert.KernelIdeal.Blocks

end
-- ==== Proof.Arrays.lean ====
module

public import proofs.«01_k».proof.Proof.Blocks

@[expose] public section

set_option maxRecDepth 16384

noncomputable section

/-!
# The kernel's arrays and results

Each output array block by block from the points that write it back, then the operations after the kernel.
-/

namespace Cert.KernelIdeal.Arrays
open Idealize.ShloMosaic Cert.KernelIdeal Cert.KernelIdeal.Gen Cert.KernelIdeal.Inv Cert.KernelIdeal.Blocks Cert.Spec
open Idealize.ShloMosaic.TcCoe Idealize.SL.Sem

variable (m : (g : Loc nD τ sig) → Buf (Elt Ideal) g) (c : Dev nD)

/-- Where output window 7's block lies at the last two points. -/
theorem at7 : ∀ t : Fin grid0.N, 14 ≤ t.val → cc0_transform_7 (grid0.coords t) = ![t.val % 2, 0] := by decide +kernel

/-- Where output window 8's block lies at each point. -/
theorem at8 : ∀ t : Fin grid0.N, cc0_transform_8 (grid0.coords t) = ![t.val / 2, t.val % 2, 0, 0] := by decide +kernel

/-- Where output window 9's block lies at each point. -/
theorem at9 : ∀ t : Fin grid0.N, cc0_transform_9 (grid0.coords t) = ![t.val / 2, 0, 0] := by decide +kernel

/-- Window 7 is written back at the last two points. -/
theorem flush7 : ∀ t : Fin cfg0.N, (cfg0.win 7).flush t = true ↔ 14 ≤ t.val :=
  (by decide +kernel : ∀ t : Fin grid0.N, win0_7.flush t = true ↔ 14 ≤ t.val)

/-- The two points that write window 7 back write different blocks. -/
theorem inj7 : ∀ t t' : Fin cfg0.N, 14 ≤ t.val → 14 ≤ t'.val → win0_7.index t = win0_7.index t' → t = t' :=
  (by decide +kernel : ∀ t t' : Fin grid0.N, 14 ≤ t.val → 14 ≤ t'.val → win0_7.index t = win0_7.index t' → t = t')

/-- Different points write different blocks of window 8. -/
theorem inj8 : ∀ t t' : Fin cfg0.N, win0_8.index t = win0_8.index t' → t = t' :=
  (by decide +kernel : ∀ t t' : Fin grid0.N, win0_8.index t = win0_8.index t' → t = t')

/-- The points that write window 9 back write different blocks. -/
theorem inj9 : ∀ t t' : Fin cfg0.N, t.val % 2 = 1 → t'.val % 2 = 1 → win0_9.index t = win0_9.index t' → t = t' :=
  (by decide +kernel : ∀ t t' : Fin grid0.N, t.val % 2 = 1 → t'.val % 2 = 1 → win0_9.index t = win0_9.index t' → t = t')

/-- Block of window 7 at one of the last two points, after the run. -/
theorem block7 (t : Fin cfg0.N) (h : 14 ≤ t.val) :
    ((cfg0.win 7).blk t).view.read (Elt Ideal) ((dats m 0 c).arrAt 7 cfg0.N) = (cfg0.win 7).cut (grid0.coords t) (outsAt0 m c t.val t.isLt).1 := by
  rw [(dats m 0 c).read_blk_arrAt_eq_flushed 7 (fun t t' hf hf' hne => (cfg0.win 7).disjoint_blk fun e =>
    hne (inj7 t t' ((flush7 t).mp hf) ((flush7 t').mp hf') e)) cfg0.N t t.isLt ((flush7 t).mpr h)]
  show (cfg0.win 7).cut (grid0.coords t) ((dats m 0 c).after 7 t) = _
  rw [after0_7]

/-- Block of window 8 at a point, after the run. -/
theorem block8 (t : Fin cfg0.N) :
    ((cfg0.win 8).blk t).view.read (Elt Ideal) ((dats m 0 c).arrAt 8 cfg0.N) = (cfg0.win 8).cut (grid0.coords t) (outsAt0 m c t.val t.isLt).2.1 := by
  rw [(dats m 0 c).read_blk_arrAt_eq_flushed 8 (fun t t' hf hf' hne => (cfg0.win 8).disjoint_blk fun e =>
    hne (inj8 t t' e)) cfg0.N t t.isLt (flush0_8 t)]
  show (cfg0.win 8).cut (grid0.coords t) ((dats m 0 c).after 8 t) = _
  rw [after0_8]

/-- Block of window 9 at a layer's second point, after the run. -/
theorem block9 (t : Fin cfg0.N) (h : t.val % 2 = 1) :
    ((cfg0.win 9).blk t).view.read (Elt Ideal) ((dats m 0 c).arrAt 9 cfg0.N) = (cfg0.win 9).cut (grid0.coords t) (outsAt0 m c t.val t.isLt).2.2.1 := by
  rw [(dats m 0 c).read_blk_arrAt_eq_flushed 9 (fun t t' hf hf' hne => (cfg0.win 9).disjoint_blk fun e =>
    hne (inj9 t t' ((flush0_9 t).mp hf) ((flush0_9 t').mp hf') e)) cfg0.N t t.isLt ((flush0_9 t).mpr h)]
  show (cfg0.win 9).cut (grid0.coords t) ((dats m 0 c).after 9 t) = _
  rw [after0_9]

/-- The array of what was quantised: each row less its last residual. -/
theorem arr7 (b : Fin 2) (n d : Fin 1024) :
    ((dats m 0 c).arrAt 7 cfg0.N : Vec Ideal S2048x1024 .f32) (ix2 (row b n) d) = X m c (row b n) d - res (P m c) (X m c (row b n)) 8 d := by
  have hb := b.isLt
  have ht : 14 + b.val < cfg0.N := by show _ < 16; omega
  have hh : half (14 + b.val) = b := Fin.ext (by show (14 + b.val) % 2 = b.val; omega)
  have e := congrFun (block7 m c ⟨14 + b.val, ht⟩ (Nat.le_add_right 14 _)) (ix2 (n0 := 1024) (n1 := 1024) n d)
  have g := (good m c (14 + b.val) ht).outs (Nat.le_add_right 14 _) n d
  rw [hh] at g
  rw [View.read_apply] at e
  refine Eq.trans ?_ (e.trans g)
  show (dats m 0 c).arrAt 7 cfg0.N _ = (dats m 0 c).arrAt 7 cfg0.N _
  congr 1
  funext x
  apply Fin.ext
  match x with
  | ⟨0, _⟩ =>
    show b.val * 1024 + n.val = cc0_transform_7 (grid0.coords ⟨14 + b.val, ht⟩) 0 * 1024 + 1 * n.val
    rw [at7 ⟨14 + b.val, ht⟩ (Nat.le_add_right 14 _)]
    show b.val * 1024 + n.val = (14 + b.val) % 2 * 1024 + 1 * n.val
    omega
  | ⟨1, _⟩ =>
    show d.val = cc0_transform_7 (grid0.coords ⟨14 + b.val, ht⟩) 1 * 1024 + 1 * d.val
    rw [at7 ⟨14 + b.val, ht⟩ (Nat.le_add_right 14 _)]
    show d.val = 0 * 1024 + 1 * d.val
    omega

/-- The array of the codes. -/
theorem arr8 (q : Fin 8) (b : Fin 2) (n : Fin 1024) :
    ((dats m 0 c).arrAt 8 cfg0.N : Vec Ideal S8x2x1024x1 .i32) (ix4 q b n 0)
      = BitVec.ofNat 32 (code (P m c q) (code_vec (P m c) (X m c (row b n)) q)).val := by
  have hb := b.isLt
  have hq := q.isLt
  have ht : 2 * q.val + b.val < cfg0.N := by show _ < 16; omega
  have hh : half (2 * q.val + b.val) = b := Fin.ext (by show (2 * q.val + b.val) % 2 = b.val; omega)
  have hd : (2 * q.val + b.val) / 2 = q.val := by omega
  have e := congrFun (block8 m c ⟨2 * q.val + b.val, ht⟩) (ix4 (n0 := 1) (n1 := 1) (n2 := 1024) (n3 := 1) 0 0 n 0)
  have g := (good m c (2 * q.val + b.val) ht).codes n
  rw [hh, hd] at g
  rw [View.read_apply] at e
  refine Eq.trans ?_ (e.trans g)
  show (dats m 0 c).arrAt 8 cfg0.N _ = (dats m 0 c).arrAt 8 cfg0.N _
  congr 1
  funext x
  apply Fin.ext
  match x with
  | ⟨0, _⟩ =>
    show q.val = cc0_transform_8 (grid0.coords ⟨2 * q.val + b.val, ht⟩) 0 * 1 + 1 * 0
    rw [at8]
    show q.val = (2 * q.val + b.val) / 2 * 1 + 1 * 0
    omega
  | ⟨1, _⟩ =>
    show b.val = cc0_transform_8 (grid0.coords ⟨2 * q.val + b.val, ht⟩) 1 * 1 + 1 * 0
    rw [at8]
    show b.val = (2 * q.val + b.val) % 2 * 1 + 1 * 0
    omega
  | ⟨2, _⟩ =>
    show n.val = cc0_transform_8 (grid0.coords ⟨2 * q.val + b.val, ht⟩) 2 * 1024 + 1 * n.val
    rw [at8]
    show n.val = 0 * 1024 + 1 * n.val
    omega
  | ⟨3, _⟩ =>
    show 0 = cc0_transform_8 (grid0.coords ⟨2 * q.val + b.val, ht⟩) 3 * 1 + 1 * 0
    rw [at8]
    rfl

/-- The array of the losses. -/
theorem arr9 (q : Fin 8) : ((dats m 0 c).arrAt 9 cfg0.N : Vec Ideal S8x1x1 .f32) (ix3 q 0 0) = loss (P m c) (X m c) q := by
  have hq := q.isLt
  have ht : 2 * q.val + 1 < cfg0.N := by show _ < 16; omega
  have ho : (2 * q.val + 1) % 2 = 1 := by omega
  have hd : (2 * q.val + 1) / 2 = q.val := by omega
  have e := congrFun (block9 m c ⟨2 * q.val + 1, ht⟩ ho) (ix3 (n0 := 1) (n1 := 1) (n2 := 1) 0 0 0)
  have g := (good m c (2 * q.val + 1) ht).loss ho
  rw [hd] at g
  rw [View.read_apply] at e
  refine Eq.trans ?_ (e.trans g)
  show (dats m 0 c).arrAt 9 cfg0.N _ = (dats m 0 c).arrAt 9 cfg0.N _
  congr 1
  funext x
  apply Fin.ext
  match x with
  | ⟨0, _⟩ =>
    show q.val = cc0_transform_9 (grid0.coords ⟨2 * q.val + 1, ht⟩) 0 * 1 + 1 * 0
    rw [at9]
    show q.val = (2 * q.val + 1) / 2 * 1 + 1 * 0
    omega
  | ⟨1, _⟩ =>
    show 0 = cc0_transform_9 (grid0.coords ⟨2 * q.val + 1, ht⟩) 1 * 1 + 1 * 0
    rw [at9]
    rfl
  | ⟨2, _⟩ =>
    show 0 = cc0_transform_9 (grid0.coords ⟨2 * q.val + 1, ht⟩) 2 * 1 + 1 * 0
    rw [at9]
    rfl

/-- The device's buffers after the kernel: the output arrays in place of what was there. -/
def held : Valuation τ sig (Elt Ideal) := Pipeline.withArrays spec0 c (V0 m c) fun w => (dats m 0 c).arrAt w cfg0.N

/-- No two windows are of the same array. -/
theorem arr_inj : Function.Injective (Pipeline.arrRef spec0) := by decide

/-- The first output array as the operations after the kernel find it. -/
theorem held7 : held m c (Proc.devRef .tc main_v34_0) = (dats m 0 c).arrAt 7 cfg0.N :=
  Pipeline.withArrays_arr spec0 arr_inj c (V0 m c) (fun w => (dats m 0 c).arrAt w cfg0.N) 7

/-- The second output array as the operations after the kernel find it. -/
theorem held8 : held m c (Proc.devRef .tc main_v34_1) = (dats m 0 c).arrAt 8 cfg0.N :=
  Pipeline.withArrays_arr spec0 arr_inj c (V0 m c) (fun w => (dats m 0 c).arrAt w cfg0.N) 8

/-- The third output array as the operations after the kernel find it. -/
theorem held9 : held m c (Proc.devRef .tc main_v34_2) = (dats m 0 c).arrAt 9 cfg0.N :=
  Pipeline.withArrays_arr spec0 arr_inj c (V0 m c) (fun w => (dats m 0 c).arrAt w cfg0.N) 9

/-- What the operations after the kernel make of the buffers. -/
abbrev tail (b : Ref sig .tc) := Pipeline.afterTail₀ cfgs (dats m) 0 (V0 m) [hostOps1] c b

/-- The first result. -/
theorem read_v36 (b : Fin 2) (d t : Fin 1024) : tail m c main_v36 (ix3 b d t) = X m c (row b t) d - res (P m c) (X m c (row b t)) 8 d := by
  refine Eq.trans ?_ (arr7 m c b t d)
  rw [← held7]
  show StableHlo.after hostOps1 (held m c) (Proc.devRef .tc main_v36) (ix3 b d t) = _
  after_reads_at
  rfl

/-- The second result. -/
theorem read_v37 (q : Fin 8) (b : Fin 2) (t : Fin 1024) :
    tail m c main_v37 (ix3 q b t) = BitVec.ofNat 32 (code (P m c q) (code_vec (P m c) (X m c (row b t)) q)).val := by
  refine Eq.trans ?_ (arr8 m c q b t)
  rw [← held8]
  show StableHlo.after hostOps1 (held m c) (Proc.devRef .tc main_v37) (ix3 q b t) = _
  after_reads_at

/-- The third result. -/
theorem read_v38 (q : Fin 8) : tail m c main_v38 (ix1 q) = loss (P m c) (X m c) q := by
  refine Eq.trans ?_ (arr9 m c q)
  rw [← held9]
  show StableHlo.after hostOps1 (held m c) (Proc.devRef .tc main_v38) (ix1 q) = _
  after_reads_at

/-- Every run leaves the three results, index by index. -/
theorem results (g : Dev nD → PrngReg) : θ_run (defs (F := Ideal)) (onTc (τ := τ) (main (F := Ideal))) ⟨m, fun _ => 0, g⟩ (fun r => ∀ c : Dev nD,
    (∀ b d t, r.2.mem ((c.tc : Thread nD τ).loc main_v36) (ix3 b d t) = X m c (row b t) d - res (P m c) (X m c (row b t)) 8 d)
    ∧ (∀ (q : Fin 8) b t, r.2.mem ((c.tc : Thread nD τ).loc main_v37) (ix3 q b t)
        = BitVec.ofNat 32 (code (P m c q) (code_vec (P m c) (X m c (row b t)) q)).val)
    ∧ (∀ q : Fin 8, r.2.mem ((c.tc : Thread nD τ).loc main_v38) (ix1 q) = loss (P m c) (X m c) q)) := by
  refine (θ_run (defs (F := Ideal)) _ _).mono (fun r h c => ⟨fun b d t => ?_, fun q b t => ?_, fun q => ?_⟩) (run_main m g)
  · rw [← read_v36]
    exact congrFun ((h c).2 main_v36 (Pipeline.mem_restRefs_of main_v36 (by decide) (by decide))) _
  · rw [← read_v37]
    exact congrFun ((h c).2 main_v37 (Pipeline.mem_restRefs_of main_v37 (by decide) (by decide))) _
  · rw [← read_v38]
    exact congrFun ((h c).2 main_v38 (Pipeline.mem_restRefs_of main_v38 (by decide) (by decide))) _

end Cert.KernelIdeal.Arrays

end
-- ==== Proof.RefOps.lean ====
module

public import proofs.«01_k».proof.Proof.Gen.ReferenceIdeal.Run
public import proofs.«01_k».proof.Proof.ArgMin
public import Idealize.ShloMosaic.Lib.Pointwise
public import Idealize.ShloMosaic.Lib.StableHlo.ReadAt
public import Idealize.ShloMosaic.Lib.Routing.OpsSet
public import Idealize.ShloMosaic.Lib.DynamicIndex
public import Idealize.ShloMosaic.Lib.IdealHost

@[expose] public section

set_option maxRecDepth 16384

noncomputable section

/-!
# The reference's operations at an index

One trip of the reference's loop over the layers is sixteen stretches of host operations. Each stretch's results, read at an
index over any contents before it.
-/

namespace Cert.ReferenceIdeal.Ops
open Idealize.ShloMosaic Cert.ReferenceIdeal Cert.ReferenceIdeal.Gen Cert.Spec
open Idealize.ShloMosaic.StableHlo

/-- The contents of every buffer of one device. -/
abbrev Val := Valuation τ sig (Elt Ideal)

/-- The layer's input weights. -/
abbrev bW (V : Val) : Vec Ideal S256x1024 .f32 := V (Proc.devRef .tc main_while0b_v5)
/-- The layer's input bias. -/
abbrev bbi (V : Val) : Vec Ideal S256 .f32 := V (Proc.devRef .tc main_while0b_v6)
/-- The layer's output weights. -/
abbrev bWo (V : Val) : Vec Ideal S1024x256 .f32 := V (Proc.devRef .tc main_while0b_v7)
/-- The layer's output bias. -/
abbrev bbo (V : Val) : Vec Ideal S1024 .f32 := V (Proc.devRef .tc main_while0b_v8)
/-- The layer's codebook. -/
abbrev bC (V : Val) : Vec Ideal S1024x256 .f32 := V (Proc.devRef .tc main_while0b_v9)
/-- The residual. -/
abbrev bR (V : Val) : Vec Ideal S2x1024x1024 .f32 := V (Proc.devRef .tc main_v4_7)
/-- The sum of the layers' outputs. -/
abbrev bQ (V : Val) : Vec Ideal S2x1024x1024 .f32 := V (Proc.devRef .tc main_v4_6)
/-- The encoded vectors. -/
abbrev bZ (V : Val) : Vec Ideal S2x256x1024 .f32 := V (Proc.devRef .tc main_while0b_v14)
/-- The encoded vectors as rows. -/
abbrev bZr (V : Val) : Vec Ideal S2048x256 .f32 := V (Proc.devRef .tc main_while0b_v16)
/-- The rows' lengths. -/
abbrev bN (V : Val) : Vec Ideal S2048x1 .f32 := V (Proc.devRef .tc main_while0b_v17)
/-- The rows made unit. -/
abbrev bU (V : Val) : Vec Ideal S2048x256 .f32 := V (Proc.devRef .tc main_while0b_v21)
/-- The codebook rows' lengths. -/
abbrev bNc (V : Val) : Vec Ideal S1024x1 .f32 := V (Proc.devRef .tc main_while0b_v22)
/-- The distances, negated. -/
abbrev bD (V : Val) : Vec Ideal S2048x1024 .f32 := V (Proc.devRef .tc main_while0b_v41)
/-- The chosen codes. -/
abbrev bI (V : Val) : Vec Ideal S2048 .i32 := V (Proc.devRef .tc main_while0b_v42)
/-- The codebook rows chosen. -/
abbrev bT (V : Val) : Vec Ideal S2048x256 .f32 := V (Proc.devRef .tc main_while0b_v43)

/-- The encoded vectors are the residual through the input weights, and the bias. -/
theorem ops5_z (V : Val) (b : Fin 2) (e : Fin 256) (t : Fin 1024) :
    bZ (after while0Ops0_5 V) (ix3 b e t) = (∑ d : Fin 1024, bR V (ix3 b d t) * bW V (ix2 e d)) + bbi V (ix1 e) := by
  unfold bZ
  after_reads_at

/-- The rows are the encoded vectors, turned. -/
theorem ops5_zr (V : Val) (n : Fin 2048) (b : Fin 2) (t : Fin 1024) (hb : n.val / 1024 = b.val) (ht : n.val % 1024 = t.val) (e : Fin 256) :
    bZr (after while0Ops0_5 V) (ix2 n e) = bZ (after while0Ops0_5 V) (ix3 b e t) := by
  unfold bZ bZr
  after_reads_at
  simp only [hb, ht]

/-- A row's length. -/
theorem ops6 (V : Val) (n : Fin 2048) : bN (after while0Ops0_6 V) (ix2 n 0) = Ideal.sqrt (sumsq fun e => bZr V (ix2 n e)) := by
  unfold bN
  after_reads_at
  rfl

/-- A row made unit. -/
theorem ops7 (V : Val) (n : Fin 2048) (e : Fin 256) :
    bU (after while0Ops0_7 V) (ix2 n e) = Ideal.div (bZr V (ix2 n e)) (bN V (ix2 n 0) + eps) := by
  unfold bU
  after_reads_at
  rfl

/-- A codebook row's length. -/
theorem ops8 (V : Val) (k : Fin 1024) : bNc (after while0Ops0_8 V) (ix2 k 0) = Ideal.sqrt (sumsq fun e => bC V (ix2 k e)) := by
  unfold bNc
  after_reads_at
  rfl

/-- The negated distance of a unit row from a unit codebook row. -/
theorem ops9 (V : Val) (n : Fin 2048) (k : Fin 1024) (u : Fin 256 → EReal) (hu : ∀ e, bU V (ix2 n e) = u e) (c : Fin 256 → EReal)
    (hc : ∀ e, Ideal.div (bC V (ix2 k e)) (bNc V (ix2 k 0) + eps) = c e) :
    bD (after while0Ops0_9 V) (ix2 n k) = -((sumsq u - two * ∑ e, u e * c e) + sumsq c) := by
  obtain rfl : (fun e => bU V (ix2 n e)) = u := funext hu
  obtain rfl : (fun e => Ideal.div (bC V (ix2 k e)) (bNc V (ix2 k 0) + eps)) = c := funext hc
  unfold bD
  after_reads_at
  rfl

/-- Two indices of three axes with the same numbers are one. -/
theorem ix3_ext {a b c : Nat} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-- Two indices of two axes with the same numbers are one. -/
theorem ix2_ext {a b : Nat} {i i' : Fin a} {j j' : Fin b} (hi : i.val = i'.val) (hj : j.val = j'.val) :
    ix2 i j = ix2 i' j' := by
  rw [Fin.ext hi, Fin.ext hj]

/-- The counter at trip `q` is the number `q`. -/
theorem ctr_toInt (q : Fin 8) : (Scf.iv 0#32 1#32 q.val).toInt = (q.val : ℤ) := by
  revert q; decide

/-- Before trip `q` the loop's counter is the number `q`. -/
def At (V : Val) (q : Fin 8) : Prop := V (Proc.devRef .tc main_v4_5) = fun _ => Scf.iv 0#32 1#32 q.val

/-- The layer's input weights are the trip's slice. -/
theorem ops0 (V : Val) (q : Fin 8) (hq : At V q) (e : Fin 256) (d : Fin 1024) :
    bW (after while0Ops0 V) (ix2 e d) = (V (Proc.devRef .tc main_v4_0) : Vec Ideal S8x256x1024 .f32) (ix3 q e d) := by
  have hc : upto while0Ops0 V 2 (Proc.devRef .tc main_v4_5) = fun _ => Scf.iv 0#32 1#32 q.val := by
    refine Eq.trans ?_ hq
    simp only [upto, List.take_succ_cons, List.take_zero]
    after_results
  have h0 : upto while0Ops0 V 2 (Proc.devRef .tc main_while0b_call0_c) = constantI S_ 32 0#32 := by
    simp only [upto, List.take_succ_cons, List.take_zero]
    after_results
    rfl
  have h1 : upto while0Ops0 V 2 (Proc.devRef .tc main_while0b_call0_c_0) = constantI S_ 32 0#32 := by
    simp only [upto, List.take_succ_cons, List.take_zero]
    after_results
    rfl
  unfold bW
  after_reads_at
  generalize upto while0Ops0 V 2 = V' at hc h0 h1 ⊢
  refine congrArg _ (ix3_ext ?_ ?_ ?_ )
  · dsimp only
    refine Host.clampedStart_of_le _ _ _ _ ?_ ?_
    · simp only [Matrix.cons_val_zero, TRef.of, cast_eq]
      rw [hc]
      exact ctr_toInt q
    · exact q.isLt
  · dsimp only
    rw [Host.clampedStart_of_le _ _ _ 0, Nat.zero_add]
    · simp only [Matrix.cons_val, TRef.of, cast_eq]
      rw [h0]
      rfl
    · exact le_of_eq (Nat.zero_add _)
  · dsimp only
    rw [Host.clampedStart_of_le _ _ _ 0, Nat.zero_add]
    · simp only [Matrix.cons_val, TRef.of, cast_eq]
      rw [h1]
      rfl
    · exact le_of_eq (Nat.zero_add _)

/-- The layer's input bias is the trip's slice. -/
theorem ops1 (V : Val) (q : Fin 8) (hq : At V q) (e : Fin 256) :
    bbi (after while0Ops0_1 V) (ix1 e) = (V (Proc.devRef .tc main_v4_1) : Vec Ideal S8x256 .f32) (ix2 q e) := by
  have hc : upto while0Ops0_1 V 1 (Proc.devRef .tc main_v4_5) = fun _ => Scf.iv 0#32 1#32 q.val := by
    refine Eq.trans ?_ hq
    simp only [upto, List.take_succ_cons, List.take_zero]
    after_results
  have h0 : upto while0Ops0_1 V 1 (Proc.devRef .tc main_while0b_call1_c) = constantI S_ 32 0#32 := by
    simp only [upto, List.take_succ_cons, List.take_zero]
    after_results
    rfl
  unfold bbi
  after_reads_at
  generalize upto while0Ops0_1 V 1 = V' at hc h0 ⊢
  refine congrArg _ (ix2_ext ?_ ?_ )
  · dsimp only
    refine Host.clampedStart_of_le _ _ _ _ ?_ ?_
    · simp only [Matrix.cons_val_zero, TRef.of, cast_eq]
      rw [hc]
      exact ctr_toInt q
    · exact q.isLt
  · dsimp only
    rw [Host.clampedStart_of_le _ _ _ 0, Nat.zero_add]
    · simp only [Matrix.cons_val, TRef.of, cast_eq]
      rw [h0]
      rfl
    · exact le_of_eq (Nat.zero_add _)

/-- The layer's output weights are the trip's slice. -/
theorem ops2 (V : Val) (q : Fin 8) (hq : At V q) (e : Fin 1024) (d : Fin 256) :
    bWo (after while0Ops0_2 V) (ix2 e d) = (V (Proc.devRef .tc main_v4_2) : Vec Ideal S8x1024x256 .f32) (ix3 q e d) := by
  have hc : upto while0Ops0_2 V 2 (Proc.devRef .tc main_v4_5) = fun _ => Scf.iv 0#32 1#32 q.val := by
    refine Eq.trans ?_ hq
    simp only [upto, List.take_succ_cons, List.take_zero]
    after_results
  have h0 : upto while0Ops0_2 V 2 (Proc.devRef .tc main_while0b_call2_c) = constantI S_ 32 0#32 := by
    simp only [upto, List.take_succ_cons, List.take_zero]
    after_results
    rfl
  have h1 : upto while0Ops0_2 V 2 (Proc.devRef .tc main_while0b_call2_c_0) = constantI S_ 32 0#32 := by
    simp only [upto, List.take_succ_cons, List.take_zero]
    after_results
    rfl
  unfold bWo
  after_reads_at
  generalize upto while0Ops0_2 V 2 = V' at hc h0 h1 ⊢
  refine congrArg _ (ix3_ext ?_ ?_ ?_ )
  · dsimp only
    refine Host.clampedStart_of_le _ _ _ _ ?_ ?_
    · simp only [Matrix.cons_val_zero, TRef.of, cast_eq]
      rw [hc]
      exact ctr_toInt q
    · exact q.isLt
  · dsimp only
    rw [Host.clampedStart_of_le _ _ _ 0, Nat.zero_add]
    · simp only [Matrix.cons_val, TRef.of, cast_eq]
      rw [h0]
      rfl
    · exact le_of_eq (Nat.zero_add _)
  · dsimp only
    rw [Host.clampedStart_of_le _ _ _ 0, Nat.zero_add]
    · simp only [Matrix.cons_val, TRef.of, cast_eq]
      rw [h1]
      rfl
    · exact le_of_eq (Nat.zero_add _)

/-- The layer's output bias is the trip's slice. -/
theorem ops3 (V : Val) (q : Fin 8) (hq : At V q) (e : Fin 1024) :
    bbo (after while0Ops0_3 V) (ix1 e) = (V (Proc.devRef .tc main_v4_3) : Vec Ideal S8x1024 .f32) (ix2 q e) := by
  have hc : upto while0Ops0_3 V 1 (Proc.devRef .tc main_v4_5) = fun _ => Scf.iv 0#32 1#32 q.val := by
    refine Eq.trans ?_ hq
    simp only [upto, List.take_succ_cons, List.take_zero]
    after_results
  have h0 : upto while0Ops0_3 V 1 (Proc.devRef .tc main_while0b_call3_c) = constantI S_ 32 0#32 := by
    simp only [upto, List.take_succ_cons, List.take_zero]
    after_results
    rfl
  unfold bbo
  after_reads_at
  generalize upto while0Ops0_3 V 1 = V' at hc h0 ⊢
  refine congrArg _ (ix2_ext ?_ ?_ )
  · dsimp only
    refine Host.clampedStart_of_le _ _ _ _ ?_ ?_
    · simp only [Matrix.cons_val_zero, TRef.of, cast_eq]
      rw [hc]
      exact ctr_toInt q
    · exact q.isLt
  · dsimp only
    rw [Host.clampedStart_of_le _ _ _ 0, Nat.zero_add]
    · simp only [Matrix.cons_val, TRef.of, cast_eq]
      rw [h0]
      rfl
    · exact le_of_eq (Nat.zero_add _)

/-- The layer's codebook is the trip's slice. -/
theorem ops4 (V : Val) (q : Fin 8) (hq : At V q) (e : Fin 1024) (d : Fin 256) :
    bC (after while0Ops0_4 V) (ix2 e d) = (V (Proc.devRef .tc main_v4_4) : Vec Ideal S8x1024x256 .f32) (ix3 q e d) := by
  have hc : upto while0Ops0_4 V 2 (Proc.devRef .tc main_v4_5) = fun _ => Scf.iv 0#32 1#32 q.val := by
    refine Eq.trans ?_ hq
    simp only [upto, List.take_succ_cons, List.take_zero]
    after_results
  have h0 : upto while0Ops0_4 V 2 (Proc.devRef .tc main_while0b_call4_c) = constantI S_ 32 0#32 := by
    simp only [upto, List.take_succ_cons, List.take_zero]
    after_results
    rfl
  have h1 : upto while0Ops0_4 V 2 (Proc.devRef .tc main_while0b_call4_c_0) = constantI S_ 32 0#32 := by
    simp only [upto, List.take_succ_cons, List.take_zero]
    after_results
    rfl
  unfold bC
  after_reads_at
  generalize upto while0Ops0_4 V 2 = V' at hc h0 h1 ⊢
  refine congrArg _ (ix3_ext ?_ ?_ ?_ )
  · dsimp only
    refine Host.clampedStart_of_le _ _ _ _ ?_ ?_
    · simp only [Matrix.cons_val_zero, TRef.of, cast_eq]
      rw [hc]
      exact ctr_toInt q
    · exact q.isLt
  · dsimp only
    rw [Host.clampedStart_of_le _ _ _ 0, Nat.zero_add]
    · simp only [Matrix.cons_val, TRef.of, cast_eq]
      rw [h0]
      rfl
    · exact le_of_eq (Nat.zero_add _)
  · dsimp only
    rw [Host.clampedStart_of_le _ _ _ 0, Nat.zero_add]
    · simp only [Matrix.cons_val, TRef.of, cast_eq]
      rw [h1]
      rfl
    · exact le_of_eq (Nat.zero_add _)

/-- A block of one layer's codes written over the array of all layers' codes. -/
theorem put3 (x : Vec Ideal S8x2x1024 .i32) (u : Vec Ideal S1x2x1024 .i32) (start : Fin 3 → ℤ) (h : S8x2x1024.Slices (fun _ => 0) S1x2x1024)
    (q : Fin 8) (h0 : start 0 = (q.val : ℤ)) (h1 : start 1 = 0) (h2 : start 2 = 0) (p : Fin 8) (b : Fin 2) (t : Fin 1024) :
    Host.dynamicUpdateSlice x u start h (ix3 p b t) = if p = q then u (ix3 0 b t) else x (ix3 p b t) := by
  have c0 : Host.clampedStart S8x2x1024 S1x2x1024 h.1 start 0 = q.val := Host.clampedStart_of_le _ _ _ _ h0 q.isLt
  have c1 : Host.clampedStart S8x2x1024 S1x2x1024 h.1 start 1 = 0 := Host.clampedStart_of_le _ _ _ _ h1 (le_of_eq (Nat.zero_add _))
  have c2 : Host.clampedStart S8x2x1024 S1x2x1024 h.1 start 2 = 0 := Host.clampedStart_of_le _ _ _ _ h2 (le_of_eq (Nat.zero_add _))
  pointwise
  simp only [c0, c1, c2]
  by_cases hp : p = q
  · subst hp
    rw [dif_pos (by omega), if_pos rfl]
    exact congrArg u (ix3_ext (Nat.sub_self _) (Nat.sub_zero _) (Nat.sub_zero _))
  · rw [dif_neg (fun hh => hp (Fin.ext (by omega))), if_neg hp]

/-- One layer's loss written over the array of all layers' losses. -/
theorem put1 (x : Vec Ideal S8 .f32) (u : Vec Ideal S1 .f32) (start : Fin 1 → ℤ) (h : S8.Slices (fun _ => 0) S1)
    (q : Fin 8) (h0 : start 0 = (q.val : ℤ)) (p : Fin 8) :
    Host.dynamicUpdateSlice x u start h (ix1 p) = if p = q then u (ix1 0) else x (ix1 p) := by
  have c0 : Host.clampedStart S8 S1 h.1 start 0 = q.val := Host.clampedStart_of_le _ _ _ _ h0 q.isLt
  pointwise
  simp only [c0]
  by_cases hp : p = q
  · subst hp
    rw [dif_pos (by omega), if_pos rfl]
    exact congrArg u (congrArg ix1 (Fin.ext (Nat.sub_self _)))
  · rw [dif_neg (fun hh => hp (Fin.ext (by omega))), if_neg hp]

/-- The layer's codes go to the trip's place in the array of codes. -/
theorem ops13 (V : Val) (q : Fin 8) (hq : At V q) (p : Fin 8) (b : Fin 2) (t : Fin 1024) :
    (after while0Ops0_13 V (Proc.devRef .tc main_while0b_v66) : Vec Ideal S8x2x1024 .i32) (ix3 p b t)
      = if p = q then (V (Proc.devRef .tc main_while0b_v63) : Vec Ideal S2x1024 .i32) (ix2 b t)
        else (V (Proc.devRef .tc main_v4_8) : Vec Ideal S8x2x1024 .i32) (ix3 p b t) := by
  have hc : upto while0Ops0_13 V 3 (Proc.devRef .tc main_v4_5) = fun _ => Scf.iv 0#32 1#32 q.val := by
    refine Eq.trans ?_ hq
    simp only [upto, List.take_succ_cons, List.take_zero]
    after_results
  have h0 : upto while0Ops0_13 V 3 (Proc.devRef .tc main_while0b_call9_c) = constantI S_ 32 0#32 := by
    simp only [upto, List.take_succ_cons, List.take_zero]
    after_results
    rfl
  have h1 : upto while0Ops0_13 V 3 (Proc.devRef .tc main_while0b_call9_c_0) = constantI S_ 32 0#32 := by
    simp only [upto, List.take_succ_cons, List.take_zero]
    after_results
    rfl
  after_reads_simp
  generalize upto while0Ops0_13 V 3 = V' at hc h0 h1 ⊢
  simp -implicitDefEqProofs only [TRef.toBuf, TRef.ofBuf, cast_cast, cast_eq]
  clean_types
  rw [put3 _ _ _ _ q]
  · pointwise
  · simp only [Matrix.cons_val, TRef.of, cast_eq]
    rw [hc]
    exact ctr_toInt q
  · simp only [Matrix.cons_val, TRef.of, cast_eq]
    rw [h0]
    rfl
  · simp only [Matrix.cons_val, TRef.of, cast_eq]
    rw [h1]
    rfl

/-- The layer's loss goes to the trip's place in the array of losses. -/
theorem ops14 (V : Val) (q : Fin 8) (hq : At V q) (p : Fin 8) :
    (after while0Ops0_14 V (Proc.devRef .tc main_while0b_v67) : Vec Ideal S8 .f32) (ix1 p)
      = if p = q then (V (Proc.devRef .tc main_while0b_v55) : Vec Ideal S_ .f32) ix0 else (V (Proc.devRef .tc main_v4_9) : Vec Ideal S8 .f32) (ix1 p) := by
  have hc : upto while0Ops0_14 V 1 (Proc.devRef .tc main_v4_5) = fun _ => Scf.iv 0#32 1#32 q.val := by
    refine Eq.trans ?_ hq
    simp only [upto, List.take_succ_cons, List.take_zero]
    after_results
  after_reads_simp
  generalize upto while0Ops0_14 V 1 = V' at hc ⊢
  simp -implicitDefEqProofs only [TRef.toBuf, TRef.ofBuf, cast_cast, cast_eq]
  clean_types
  rw [put1 _ _ _ _ q]
  · pointwise
  · simp only [Matrix.cons_val, TRef.of, cast_eq]
    rw [hc]
    exact ctr_toInt q

/-- The next residual. -/
theorem ops15_r (V : Val) : after while0Ops0_15 V (Proc.devRef .tc main_v4_7) = V (Proc.devRef .tc main_while0b_v65) := by
  after_reads_simp
  rfl
/-- The next sum of outputs. -/
theorem ops15_q (V : Val) : after while0Ops0_15 V (Proc.devRef .tc main_v4_6) = V (Proc.devRef .tc main_while0b_v64) := by
  after_reads_simp
  rfl
/-- The next array of codes. -/
theorem ops15_i (V : Val) : after while0Ops0_15 V (Proc.devRef .tc main_v4_8) = V (Proc.devRef .tc main_while0b_v66) := by
  after_reads_simp
  rfl
/-- The next array of losses. -/
theorem ops15_l (V : Val) : after while0Ops0_15 V (Proc.devRef .tc main_v4_9) = V (Proc.devRef .tc main_while0b_v67) := by
  after_reads_simp
  rfl

/-- A layer's output at an index. -/
def o12 (V : Val) (b : Fin 2) (d t : Fin 1024) (n : Fin 2048) : EReal :=
  (∑ e : Fin 256, (bZ V (ix3 b e t) + (bT V (ix2 n e) - bZ V (ix3 b e t))) * bWo V (ix2 d e)) + bbo V (ix1 d)

/-- The residual less the layer's output. -/
theorem ops12_r (V : Val) (b : Fin 2) (d t : Fin 1024) (n : Fin 2048) (hn : b.val * 1024 + t.val = n.val) :
    (after while0Ops0_12 V (Proc.devRef .tc main_while0b_v65) : Vec Ideal S2x1024x1024 .f32) (ix3 b d t) = bR V (ix3 b d t) - o12 V b d t n := by
  after_reads_at
  simp only [hn]
  rfl

/-- The sum of outputs and the layer's output. -/
theorem ops12_q (V : Val) (b : Fin 2) (d t : Fin 1024) (n : Fin 2048) (hn : b.val * 1024 + t.val = n.val) :
    (after while0Ops0_12 V (Proc.devRef .tc main_while0b_v64) : Vec Ideal S2x1024x1024 .f32) (ix3 b d t) = bQ V (ix3 b d t) + o12 V b d t n := by
  after_reads_at
  simp only [hn]
  rfl

/-- The codes of the rows, as two batches. -/
theorem ops12_i (V : Val) (b : Fin 2) (t : Fin 1024) (n : Fin 2048) (hn : b.val * 1024 + t.val = n.val) :
    (after while0Ops0_12 V (Proc.devRef .tc main_while0b_v63) : Vec Ideal S2x1024 .i32) (ix2 b t) = bI V (ix1 n) := by
  after_reads_at
  simp only [hn]

/-- The layer's loss. -/
theorem ops12_l (V : Val) (f : Fin 2 → Fin 1024 → Fin 256 → EReal)
    (hf : ∀ b t e, f b t e = (bZ V (ix3 b e t) - bT V (ix2 ⟨b.val * 1024 + t.val, by omega⟩ e)) * (bZ V (ix3 b e t) - bT V (ix2 ⟨b.val * 1024 + t.val, by omega⟩ e))) :
    (after while0Ops0_12 V (Proc.devRef .tc main_while0b_v55) : Vec Ideal S_ .f32) ix0
      = Ideal.div (∑ b, ∑ e, ∑ t, f b t e) cnt * quarter + Ideal.div (∑ b, ∑ e, ∑ t, f b t e) cnt := by
  after_reads_at
  simp only [hf]
  rw [show (∑ b : Fin 2, ∑ e : Fin 256, ∑ t : Fin 1024, (bT V (ix2 ⟨b.val * 1024 + t.val, by omega⟩ e) - bZ V (ix3 b e t)) * (bT V (ix2 ⟨b.val * 1024 + t.val, by omega⟩ e) - bZ V (ix3 b e t)))
      = ∑ b : Fin 2, ∑ e : Fin 256, ∑ t : Fin 1024, (bZ V (ix3 b e t) - bT V (ix2 ⟨b.val * 1024 + t.val, by omega⟩ e)) * (bZ V (ix3 b e t) - bT V (ix2 ⟨b.val * 1024 + t.val, by omega⟩ e)) from
    Finset.sum_congr rfl fun b _ => Finset.sum_congr rfl fun e _ => Finset.sum_congr rfl fun t _ => sub_mul_self _ _]
  rfl

/-- A code is not negative, so the lookup does not count it from the end. -/
theorem code_wrap (k : Fin 1024) :
    Scalar.select (IntOp.cmpi CmpIPredicate.slt (BitVec.ofNat 32 k.val) 0#32) (IntOp.addi (BitVec.ofNat 32 k.val) 1024#32) (BitVec.ofNat 32 k.val)
      = BitVec.ofNat 32 k.val := by
  revert k; decide +kernel

/-- A code lies within the codebook. -/
theorem code_in (k : Fin 1024) :
    IntOp.andi (IntOp.cmpi CmpIPredicate.sge (BitVec.ofNat 32 k.val) 0#32) (IntOp.cmpi CmpIPredicate.sle (BitVec.ofNat 32 k.val) 1023#32) = 1#1 := by
  revert k; decide +kernel

/-- The lookup's operation reads the codebook row that the index names. -/
theorem gather_code (x : Vec Ideal S1024x256 .f32) (idx : Vec Ideal S2048x1 .i32) (n : Fin 2048) (k : Fin 1024) (e : Fin 256)
    (h : idx (ix2 n 0) = BitVec.ofNat 32 k.val) :
    Host.gather gather_S1024x256_S2048x1_S2048x256_1_0_n_n_0_1_1256 x idx (ix2 n e) = x (ix2 k e) :=
  Routing.gather_row gather_S1024x256_S2048x1_S2048x256_1_0_n_n_0_1_1256 rfl rfl rfl rfl rfl x idx n e k h (by norm_num)

/-- The lookup takes the codebook row that the code names. -/
theorem ops11 (V : Val) (n : Fin 2048) (k : Fin 1024) (hk : bI V (ix1 n) = BitVec.ofNat 32 k.val) (e : Fin 256) :
    bT (after while0Ops0_11 V) (ix2 n e) = bC V (ix2 k e) := by
  unfold bT
  after_reads_at
  rw [gather_code _ _ n k e (by pointwise; rw [show V (Proc.devRef .tc main_while0b_v42) (ix1 n) = _ from hk, code_wrap])]
  rw [show V (Proc.devRef .tc main_while0b_v42) (ix1 n) = _ from hk]
  simp only [code_wrap, code_in]
  rw [show (Finset.univ : Finset (Fin 1)) = {0} from rfl, Finset.fold_singleton]
  rfl

/-- The numbers a row's arg-max runs over are the row's, each with its place. -/
theorem fiber_mem (D : Vec Ideal S2048x1024 .f32) (n : Fin 2048) (f : Fin 1024 → EReal) (hf : ∀ k, D (ix2 n k) = -(f k)) (p : EReal × BitVec 32) :
    p ∈ Host.argReduceFiber D (iotaInDim S2048x1024 32 1) reducesTo_S2048x1024_S2048_d1 (ix1 n)
      ↔ ∃ k : Fin 1024, p = (-(f k), BitVec.ofNat 32 k.val) := by
  unfold Host.argReduceFiber
  simp only [List.mem_map, List.mem_filter, List.mem_finRange, true_and, decide_eq_true_eq]
  constructor
  · rintro ⟨j, hj, rfl⟩
    generalize S2048x1024.rowMajor.symm j = i at hj
    obtain ⟨a, k, rfl⟩ : ∃ a k, i = ix2 a k := ⟨i 0, i 1, by funext x; match x with | 0 => rfl | 1 => rfl⟩
    have hd : reducesTo_S2048x1024_S2048_d1.drop (ix2 a k) = ix1 a := by
      funext x
      match x with
      | 0 => rfl
    have : a = n := congrFun (hd.symm.trans hj) 0
    subst this
    exact ⟨k, by rw [hf k]; rfl⟩
  · rintro ⟨k, rfl⟩
    refine ⟨S2048x1024.rowMajor (ix2 n k), ?_, ?_⟩
    · rw [Equiv.symm_apply_apply]
      funext x
      match x with
      | 0 => rfl
    · rw [Equiv.symm_apply_apply, hf k]
      rfl

/-- The layer's codes are the places of the least distances. -/
theorem ops10 (V : Val) (n : Fin 2048) (f : Fin 1024 → EReal) (hf : ∀ k, bD V (ix2 n k) = -(f k)) :
    bI (after while0Ops0_10 V) (ix1 n) = BitVec.ofNat 32 (pick f).val := by
  have h := Cert.ArgMin.ref_pick f _ (fiber_mem (bD V) n f hf)
  unfold bI
  after_reads_at
  rw [Ideal.argReduce_eq_reduce2, Host.reduce2_eq_foldl_fiber]
  rw [show (constant (F := Ideal) S_ .f32 4286578688#32 (Shape.Idx.first h_S_), constantI S_ 32 (0#32) (Shape.Idx.first h_S_)) = ((⊥ : EReal), 0#32) from
    Prod.ext Cert.ArgMin.bot_word rfl]
  exact h

end Cert.ReferenceIdeal.Ops

end
-- ==== Proof.RefTrip.lean ====
module

public import proofs.«01_k».proof.Proof.RefOps
public import proofs.«01_k».proof.Proof.Rows

@[expose] public section

set_option maxRecDepth 16384

noncomputable section

/-!
# One trip of the reference's loop

What the reference carries from layer to layer, and that one trip carries it on.
-/

namespace Cert.ReferenceIdeal.Ops
open Idealize.ShloMosaic Cert.ReferenceIdeal Cert.ReferenceIdeal.Gen Cert.Spec
open Idealize.ShloMosaic.StableHlo

/-- Before layer `k`: the parameters are those of the layers `P`, the residual and the sum of outputs are those of the rows
    `X`, and the codes and losses of the layers before `k` are in their arrays. -/
structure Inv (P : ℕ → Layer) (X : Fin 2048 → Fin 1024 → EReal) (V : Val) (k : ℕ) : Prop where
  W : ∀ (q : Fin 8) e d, (V (Proc.devRef .tc main_v4_0) : Vec Ideal S8x256x1024 .f32) (ix3 q e d) = (P q).W e d
  bi : ∀ (q : Fin 8) e, (V (Proc.devRef .tc main_v4_1) : Vec Ideal S8x256 .f32) (ix2 q e) = (P q).bi e
  Wo : ∀ (q : Fin 8) d e, (V (Proc.devRef .tc main_v4_2) : Vec Ideal S8x1024x256 .f32) (ix3 q d e) = (P q).Wo d e
  bo : ∀ (q : Fin 8) d, (V (Proc.devRef .tc main_v4_3) : Vec Ideal S8x1024 .f32) (ix2 q d) = (P q).bo d
  C : ∀ (q : Fin 8) j e, (V (Proc.devRef .tc main_v4_4) : Vec Ideal S8x1024x256 .f32) (ix3 q j e) = (P q).C j e
  r : ∀ b d t, bR V (ix3 b d t) = res P (X (row b t)) k d
  s : ∀ b d t, bQ V (ix3 b d t) = quant P (X (row b t)) k d
  i : ∀ (p : Fin 8) b t, p.val < k → (V (Proc.devRef .tc main_v4_8) : Vec Ideal S8x2x1024 .i32) (ix3 p b t)
        = BitVec.ofNat 32 (code (P p) (code_vec P (X (row b t)) p)).val
  l : ∀ (p : Fin 8), p.val < k → (V (Proc.devRef .tc main_v4_9) : Vec Ideal S8 .f32) (ix1 p) = loss P X p

/-- One trip carries it on. -/
theorem trip (P : ℕ → Layer) (X : Fin 2048 → Fin 1024 → EReal) (V : Val) (q : Fin 8) (hq : At V q) (h : Inv P X V q.val) :
    Inv P X (afterL Value.bodyI (after Value.condOps V)) (q.val + 1) := by
  simp only [afterL_cons, afterL_nil]
  obtain ⟨V0, e0⟩ : ∃ V', V' = after Value.condOps V := ⟨_, rfl⟩
  have k0 : ∀ r : Ref sig .tc, r ∉ Value.condOps_W → V0 (Proc.devRef .tc r) = V (Proc.devRef .tc r) := fun r hr => by
    rw [e0]; exact after_of_writes_sub Value.condOps V Value.condOps_writes hr
  rw [← e0]
  obtain ⟨V1, e1⟩ : ∃ V', V' = after while0Ops0 V0 := ⟨_, rfl⟩
  have k1 : ∀ r : Ref sig .tc, r ∉ Value.while0Ops0_W → V1 (Proc.devRef .tc r) = V0 (Proc.devRef .tc r) := fun r hr => by
    rw [e1]; exact after_of_writes_sub while0Ops0 V0 Value.while0Ops0_writes hr
  rw [← e1]
  obtain ⟨V2, e2⟩ : ∃ V', V' = after while0Ops0_1 V1 := ⟨_, rfl⟩
  have k2 : ∀ r : Ref sig .tc, r ∉ Value.while0Ops0_1_W → V2 (Proc.devRef .tc r) = V1 (Proc.devRef .tc r) := fun r hr => by
    rw [e2]; exact after_of_writes_sub while0Ops0_1 V1 Value.while0Ops0_1_writes hr
  rw [← e2]
  obtain ⟨V3, e3⟩ : ∃ V', V' = after while0Ops0_2 V2 := ⟨_, rfl⟩
  have k3 : ∀ r : Ref sig .tc, r ∉ Value.while0Ops0_2_W → V3 (Proc.devRef .tc r) = V2 (Proc.devRef .tc r) := fun r hr => by
    rw [e3]; exact after_of_writes_sub while0Ops0_2 V2 Value.while0Ops0_2_writes hr
  rw [← e3]
  obtain ⟨V4, e4⟩ : ∃ V', V' = after while0Ops0_3 V3 := ⟨_, rfl⟩
  have k4 : ∀ r : Ref sig .tc, r ∉ Value.while0Ops0_3_W → V4 (Proc.devRef .tc r) = V3 (Proc.devRef .tc r) := fun r hr => by
    rw [e4]; exact after_of_writes_sub while0Ops0_3 V3 Value.while0Ops0_3_writes hr
  rw [← e4]
  obtain ⟨V5, e5⟩ : ∃ V', V' = after while0Ops0_4 V4 := ⟨_, rfl⟩
  have k5 : ∀ r : Ref sig .tc, r ∉ Value.while0Ops0_4_W → V5 (Proc.devRef .tc r) = V4 (Proc.devRef .tc r) := fun r hr => by
    rw [e5]; exact after_of_writes_sub while0Ops0_4 V4 Value.while0Ops0_4_writes hr
  rw [← e5]
  obtain ⟨V6, e6⟩ : ∃ V', V' = after while0Ops0_5 V5 := ⟨_, rfl⟩
  have k6 : ∀ r : Ref sig .tc, r ∉ Value.while0Ops0_5_W → V6 (Proc.devRef .tc r) = V5 (Proc.devRef .tc r) := fun r hr => by
    rw [e6]; exact after_of_writes_sub while0Ops0_5 V5 Value.while0Ops0_5_writes hr
  rw [← e6]
  obtain ⟨V7, e7⟩ : ∃ V', V' = after while0Ops0_6 V6 := ⟨_, rfl⟩
  have k7 : ∀ r : Ref sig .tc, r ∉ Value.while0Ops0_6_W → V7 (Proc.devRef .tc r) = V6 (Proc.devRef .tc r) := fun r hr => by
    rw [e7]; exact after_of_writes_sub while0Ops0_6 V6 Value.while0Ops0_6_writes hr
  rw [← e7]
  obtain ⟨V8, e8⟩ : ∃ V', V' = after while0Ops0_7 V7 := ⟨_, rfl⟩
  have k8 : ∀ r : Ref sig .tc, r ∉ Value.while0Ops0_7_W → V8 (Proc.devRef .tc r) = V7 (Proc.devRef .tc r) := fun r hr => by
    rw [e8]; exact after_of_writes_sub while0Ops0_7 V7 Value.while0Ops0_7_writes hr
  rw [← e8]
  obtain ⟨V9, e9⟩ : ∃ V', V' = after while0Ops0_8 V8 := ⟨_, rfl⟩
  have k9 : ∀ r : Ref sig .tc, r ∉ Value.while0Ops0_8_W → V9 (Proc.devRef .tc r) = V8 (Proc.devRef .tc r) := fun r hr => by
    rw [e9]; exact after_of_writes_sub while0Ops0_8 V8 Value.while0Ops0_8_writes hr
  rw [← e9]
  obtain ⟨V10, e10⟩ : ∃ V', V' = after while0Ops0_9 V9 := ⟨_, rfl⟩
  have k10 : ∀ r : Ref sig .tc, r ∉ Value.while0Ops0_9_W → V10 (Proc.devRef .tc r) = V9 (Proc.devRef .tc r) := fun r hr => by
    rw [e10]; exact after_of_writes_sub while0Ops0_9 V9 Value.while0Ops0_9_writes hr
  rw [← e10]
  obtain ⟨V11, e11⟩ : ∃ V', V' = after while0Ops0_10 V10 := ⟨_, rfl⟩
  have k11 : ∀ r : Ref sig .tc, r ∉ Value.while0Ops0_10_W → V11 (Proc.devRef .tc r) = V10 (Proc.devRef .tc r) := fun r hr => by
    rw [e11]; exact after_of_writes_sub while0Ops0_10 V10 Value.while0Ops0_10_writes hr
  rw [← e11]
  obtain ⟨V12, e12⟩ : ∃ V', V' = after while0Ops0_11 V11 := ⟨_, rfl⟩
  have k12 : ∀ r : Ref sig .tc, r ∉ Value.while0Ops0_11_W → V12 (Proc.devRef .tc r) = V11 (Proc.devRef .tc r) := fun r hr => by
    rw [e12]; exact after_of_writes_sub while0Ops0_11 V11 Value.while0Ops0_11_writes hr
  rw [← e12]
  obtain ⟨V13, e13⟩ : ∃ V', V' = after while0Ops0_12 V12 := ⟨_, rfl⟩
  have k13 : ∀ r : Ref sig .tc, r ∉ Value.while0Ops0_12_W → V13 (Proc.devRef .tc r) = V12 (Proc.devRef .tc r) := fun r hr => by
    rw [e13]; exact after_of_writes_sub while0Ops0_12 V12 Value.while0Ops0_12_writes hr
  rw [← e13]
  obtain ⟨V14, e14⟩ : ∃ V', V' = after while0Ops0_13 V13 := ⟨_, rfl⟩
  have k14 : ∀ r : Ref sig .tc, r ∉ Value.while0Ops0_13_W → V14 (Proc.devRef .tc r) = V13 (Proc.devRef .tc r) := fun r hr => by
    rw [e14]; exact after_of_writes_sub while0Ops0_13 V13 Value.while0Ops0_13_writes hr
  rw [← e14]
  obtain ⟨V15, e15⟩ : ∃ V', V' = after while0Ops0_14 V14 := ⟨_, rfl⟩
  have k15 : ∀ r : Ref sig .tc, r ∉ Value.while0Ops0_14_W → V15 (Proc.devRef .tc r) = V14 (Proc.devRef .tc r) := fun r hr => by
    rw [e15]; exact after_of_writes_sub while0Ops0_14 V14 Value.while0Ops0_14_writes hr
  rw [← e15]
  obtain ⟨V16, e16⟩ : ∃ V', V' = after while0Ops0_15 V15 := ⟨_, rfl⟩
  have k16 : ∀ r : Ref sig .tc, r ∉ Value.while0Ops0_15_W → V16 (Proc.devRef .tc r) = V15 (Proc.devRef .tc r) := fun r hr => by
    rw [e16]; exact after_of_writes_sub while0Ops0_15 V15 Value.while0Ops0_15_writes hr
  rw [← e16]
  have p0 : V0 (Proc.devRef .tc main_v4_0) = V (Proc.devRef .tc main_v4_0) := by
    rw [k0 _ (by decide)]
  have c0 : V0 (Proc.devRef .tc main_v4_5) = V (Proc.devRef .tc main_v4_5) := by
    rw [k0 _ (by decide)]
  have p1 : V1 (Proc.devRef .tc main_v4_1) = V (Proc.devRef .tc main_v4_1) := by
    rw [k1 _ (by decide), k0 _ (by decide)]
  have c1 : V1 (Proc.devRef .tc main_v4_5) = V (Proc.devRef .tc main_v4_5) := by
    rw [k1 _ (by decide), k0 _ (by decide)]
  have p2 : V2 (Proc.devRef .tc main_v4_2) = V (Proc.devRef .tc main_v4_2) := by
    rw [k2 _ (by decide), k1 _ (by decide), k0 _ (by decide)]
  have c2 : V2 (Proc.devRef .tc main_v4_5) = V (Proc.devRef .tc main_v4_5) := by
    rw [k2 _ (by decide), k1 _ (by decide), k0 _ (by decide)]
  have p3 : V3 (Proc.devRef .tc main_v4_3) = V (Proc.devRef .tc main_v4_3) := by
    rw [k3 _ (by decide), k2 _ (by decide), k1 _ (by decide), k0 _ (by decide)]
  have c3 : V3 (Proc.devRef .tc main_v4_5) = V (Proc.devRef .tc main_v4_5) := by
    rw [k3 _ (by decide), k2 _ (by decide), k1 _ (by decide), k0 _ (by decide)]
  have p4 : V4 (Proc.devRef .tc main_v4_4) = V (Proc.devRef .tc main_v4_4) := by
    rw [k4 _ (by decide), k3 _ (by decide), k2 _ (by decide), k1 _ (by decide), k0 _ (by decide)]
  have c4 : V4 (Proc.devRef .tc main_v4_5) = V (Proc.devRef .tc main_v4_5) := by
    rw [k4 _ (by decide), k3 _ (by decide), k2 _ (by decide), k1 _ (by decide), k0 _ (by decide)]
  have hW : ∀ e d, bW V5 (ix2 e d) = (P q).W e d := fun e d => by
    rw [bW, k5 _ (by decide), k4 _ (by decide), k3 _ (by decide), k2 _ (by decide), e1]
    exact (ops0 V0 q (c0.trans hq) e d).trans ((congrFun p0 _).trans (h.W q e d))
  have hbi : ∀ e, bbi V5 (ix1 e) = (P q).bi e := fun e => by
    rw [bbi, k5 _ (by decide), k4 _ (by decide), k3 _ (by decide), e2]
    exact (ops1 V1 q (c1.trans hq) e).trans ((congrFun p1 _).trans (h.bi q e))
  have hWo : ∀ d e, bWo V5 (ix2 d e) = (P q).Wo d e := fun d e => by
    rw [bWo, k5 _ (by decide), k4 _ (by decide), e3]
    exact (ops2 V2 q (c2.trans hq) d e).trans ((congrFun p2 _).trans (h.Wo q d e))
  have hbo : ∀ d, bbo V5 (ix1 d) = (P q).bo d := fun d => by
    rw [bbo, k5 _ (by decide), e4]
    exact (ops3 V3 q (c3.trans hq) d).trans ((congrFun p3 _).trans (h.bo q d))
  have hC : ∀ j e, bC V5 (ix2 j e) = (P q).C j e := fun j e => by
    rw [e5]
    exact (ops4 V4 q (c4.trans hq) j e).trans ((congrFun p4 _).trans (h.C q j e))
  have r5 : V5 (Proc.devRef .tc main_v4_7) = V (Proc.devRef .tc main_v4_7) := by
    rw [k5 _ (by decide), k4 _ (by decide), k3 _ (by decide), k2 _ (by decide), k1 _ (by decide), k0 _ (by decide)]
  have hR : ∀ b d t, bR V5 (ix3 b d t) = res P (X (row b t)) q.val d := fun b d t => (congrFun r5 _).trans (h.r b d t)
  have hz6 : ∀ b e t, bZ V6 (ix3 b e t) = code_vec P (X (row b t)) q.val e := fun b e t => by
    rw [e6, ops5_z]
    simp only [hR, hW, hbi]
    rfl
  have hr6 : ∀ b t e, bZr V6 (ix2 (row b t) e) = code_vec P (X (row b t)) q.val e := fun b t e => by
    rw [← hz6 b e t, e6]
    refine ops5_zr V5 _ b t ?_ ?_ e
    · show (b.val * 1024 + t.val) / 1024 = b.val
      omega
    · show (b.val * 1024 + t.val) % 1024 = t.val
      omega
  have hn7 : ∀ b t, bN V7 (ix2 (row b t) 0) = Ideal.sqrt (sumsq (code_vec P (X (row b t)) q.val)) := fun b t => by
    rw [e7, ops6]
    simp only [hr6]
  have hr7 : ∀ b t e, bZr V7 (ix2 (row b t) e) = code_vec P (X (row b t)) q.val e := fun b t e => by
    rw [bZr, k7 _ (by decide)]
    exact hr6 b t e
  have hu8 : ∀ b t e, bU V8 (ix2 (row b t) e) = unit (code_vec P (X (row b t)) q.val) e := fun b t e => by
    rw [e8, ops7, hr7, hn7]
    rfl
  have cb8 : V8 (Proc.devRef .tc main_while0b_v9) = V5 (Proc.devRef .tc main_while0b_v9) := by
    rw [k8 _ (by decide), k7 _ (by decide), k6 _ (by decide)]
  have cb9 : V9 (Proc.devRef .tc main_while0b_v9) = V5 (Proc.devRef .tc main_while0b_v9) := by
    rw [k9 _ (by decide), k8 _ (by decide), k7 _ (by decide), k6 _ (by decide)]
  have cb11 : V11 (Proc.devRef .tc main_while0b_v9) = V5 (Proc.devRef .tc main_while0b_v9) := by
    rw [k11 _ (by decide), k10 _ (by decide), k9 _ (by decide), k8 _ (by decide), k7 _ (by decide), k6 _ (by decide)]
  have u9 : V9 (Proc.devRef .tc main_while0b_v21) = V8 (Proc.devRef .tc main_while0b_v21) := by
    rw [k9 _ (by decide)]
  have hnc9 : ∀ j, bNc V9 (ix2 j 0) = Ideal.sqrt (sumsq ((P q).C j)) := fun j => by
    rw [e9, ops8]
    have : ∀ e, bC V8 (ix2 j e) = (P q).C j e := fun e => (congrFun cb8 _).trans (hC j e)
    simp only [this]
  have hd10 : ∀ b t k, bD V10 (ix2 (row b t) k) = -(dist (P q) (code_vec P (X (row b t)) q.val) k) := fun b t k => by
    rw [e10]
    refine ops9 V9 (row b t) k (unit (code_vec P (X (row b t)) q.val)) (fun e => (congrFun u9 _).trans (hu8 b t e)) (unit ((P q).C k)) fun e => ?_
    rw [hnc9, show bC V9 (ix2 k e) = _ from (congrFun cb9 _).trans (hC k e)]
    rfl
  have hi11 : ∀ b t, bI V11 (ix1 (row b t)) = BitVec.ofNat 32 (code (P q) (code_vec P (X (row b t)) q.val)).val := fun b t => by
    rw [e11]
    exact ops10 V10 (row b t) _ (hd10 b t)
  have ht12 : ∀ b t e, bT V12 (ix2 (row b t) e) = dec (P q) (code_vec P (X (row b t)) q.val) e := fun b t e => by
    rw [e12, ops11 V11 (row b t) _ (hi11 b t) e]
    exact (congrFun cb11 _).trans (hC _ e)
  have z12 : V12 (Proc.devRef .tc main_while0b_v14) = V6 (Proc.devRef .tc main_while0b_v14) := by
    rw [k12 _ (by decide), k11 _ (by decide), k10 _ (by decide), k9 _ (by decide), k8 _ (by decide), k7 _ (by decide)]
  have wo12 : V12 (Proc.devRef .tc main_while0b_v7) = V5 (Proc.devRef .tc main_while0b_v7) := by
    rw [k12 _ (by decide), k11 _ (by decide), k10 _ (by decide), k9 _ (by decide), k8 _ (by decide), k7 _ (by decide), k6 _ (by decide)]
  have bo12 : V12 (Proc.devRef .tc main_while0b_v8) = V5 (Proc.devRef .tc main_while0b_v8) := by
    rw [k12 _ (by decide), k11 _ (by decide), k10 _ (by decide), k9 _ (by decide), k8 _ (by decide), k7 _ (by decide), k6 _ (by decide)]
  have rr12 : V12 (Proc.devRef .tc main_v4_7) = V5 (Proc.devRef .tc main_v4_7) := by
    rw [k12 _ (by decide), k11 _ (by decide), k10 _ (by decide), k9 _ (by decide), k8 _ (by decide), k7 _ (by decide), k6 _ (by decide)]
  have q12 : V12 (Proc.devRef .tc main_v4_6) = V (Proc.devRef .tc main_v4_6) := by
    rw [k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have i12 : V12 (Proc.devRef .tc main_while0b_v42) = V11 (Proc.devRef .tc main_while0b_v42) := by
    rw [k12 _ (by decide)]
  have hz12 : ∀ b e t, bZ V12 (ix3 b e t) = code_vec P (X (row b t)) q.val e := fun b e t => (congrFun z12 _).trans (hz6 b e t)
  have ho12 : ∀ b d t, o12 V12 b d t (row b t) = out (P q) (code_vec P (X (row b t)) q.val) d := fun b d t => by
    unfold o12
    have h1 : ∀ e, bWo V12 (ix2 d e) = (P q).Wo d e := fun e => (congrFun wo12 _).trans (hWo d e)
    have h2 : bbo V12 (ix1 d) = (P q).bo d := (congrFun bo12 _).trans (hbo d)
    simp only [hz12, ht12, h1, h2]
    rfl
  have c13 : V13 (Proc.devRef .tc main_v4_5) = V (Proc.devRef .tc main_v4_5) := by
    rw [k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have c14 : V14 (Proc.devRef .tc main_v4_5) = V (Proc.devRef .tc main_v4_5) := by
    rw [k14 _ (by decide), k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have l13 : V14 (Proc.devRef .tc main_while0b_v55) = V13 (Proc.devRef .tc main_while0b_v55) := by
    rw [k14 _ (by decide)]
  have a8 : V13 (Proc.devRef .tc main_v4_8) = V (Proc.devRef .tc main_v4_8) := by
    rw [k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have a9 : V14 (Proc.devRef .tc main_v4_9) = V (Proc.devRef .tc main_v4_9) := by
    rw [k14 _ (by decide), k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have n65 : V15 (Proc.devRef .tc main_while0b_v65) = V13 (Proc.devRef .tc main_while0b_v65) := by
    rw [k15 _ (by decide), k14 _ (by decide)]
  have n64 : V15 (Proc.devRef .tc main_while0b_v64) = V13 (Proc.devRef .tc main_while0b_v64) := by
    rw [k15 _ (by decide), k14 _ (by decide)]
  have n66 : V15 (Proc.devRef .tc main_while0b_v66) = V14 (Proc.devRef .tc main_while0b_v66) := by
    rw [k15 _ (by decide)]
  have f0 : V16 (Proc.devRef .tc main_v4_0) = V (Proc.devRef .tc main_v4_0) := by
    rw [k16 _ (by decide), k15 _ (by decide), k14 _ (by decide), k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have f1 : V16 (Proc.devRef .tc main_v4_1) = V (Proc.devRef .tc main_v4_1) := by
    rw [k16 _ (by decide), k15 _ (by decide), k14 _ (by decide), k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have f2 : V16 (Proc.devRef .tc main_v4_2) = V (Proc.devRef .tc main_v4_2) := by
    rw [k16 _ (by decide), k15 _ (by decide), k14 _ (by decide), k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have f3 : V16 (Proc.devRef .tc main_v4_3) = V (Proc.devRef .tc main_v4_3) := by
    rw [k16 _ (by decide), k15 _ (by decide), k14 _ (by decide), k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  have f4 : V16 (Proc.devRef .tc main_v4_4) = V (Proc.devRef .tc main_v4_4) := by
    rw [k16 _ (by decide), k15 _ (by decide), k14 _ (by decide), k13 _ (by decide), k12 _ (by decide), k11 _ (by decide), k10 _ (by decide), k9 _ (by decide), k8 _ (by decide), k7 _ (by decide), k6 _ (by decide), k5 _ (by decide), k4 _ (by decide), k3 _ (by decide), k2 _ (by decide), k1 _ (by decide), k0 _ (by decide)]
  refine ⟨fun p e d => (congrFun f0 _).trans (h.W p e d), fun p e => (congrFun f1 _).trans (h.bi p e), fun p d e => (congrFun f2 _).trans (h.Wo p d e),
    fun p d => (congrFun f3 _).trans (h.bo p d), fun p j e => (congrFun f4 _).trans (h.C p j e), fun b d t => ?_, fun b d t => ?_, fun p b t hp => ?_, fun p hp => ?_⟩
  · rw [bR, e16, ops15_r, n65, e13]
    refine (ops12_r V12 b d t (row b t) rfl).trans ?_
    rw [ho12, show bR V12 (ix3 b d t) = _ from (congrFun rr12 _).trans (hR b d t)]
    rfl
  · rw [bQ, e16, ops15_q, n64, e13]
    refine (ops12_q V12 b d t (row b t) rfl).trans ?_
    rw [ho12, show bQ V12 (ix3 b d t) = _ from (congrFun q12 _).trans (h.s b d t)]
    rfl
  · rw [e16, ops15_i, n66, e14]
    refine (ops13 V13 q (c13.trans hq) p b t).trans ?_
    by_cases hpq : p = q
    · subst hpq
      rw [if_pos rfl, e13]
      exact (ops12_i V12 b t (row b t) rfl).trans ((congrFun i12 _).trans (hi11 b t))
    · rw [if_neg hpq]
      exact (congrFun a8 _).trans (h.i p b t (by have : p.val ≠ q.val := fun hh => hpq (Fin.ext hh); omega))
  · rw [e16, ops15_l, e15]
    refine (ops14 V14 q (c14.trans hq) p).trans ?_
    by_cases hpq : p = q
    · subst hpq
      rw [if_pos rfl, l13, e13]
      refine (ops12_l V12 (fun b t e => (code_vec P (X (row b t)) p.val e - dec (P p) (code_vec P (X (row b t)) p.val) e)
        * (code_vec P (X (row b t)) p.val e - dec (P p) (code_vec P (X (row b t)) p.val) e)) fun b t e => ?_).trans ?_
      · rw [hz12, show bT V12 (ix2 ⟨b.val * 1024 + t.val, by omega⟩ e) = _ from ht12 b t e]
      · unfold loss
        rw [sum_rows]
        simp only [err]
        have : ∀ g : Fin 2 → Fin 1024 → Fin 256 → EReal, (∑ b, ∑ e, ∑ t, g b t e) = ∑ b, ∑ t, ∑ e, g b t e := fun g =>
          Finset.sum_congr rfl fun b _ => Finset.sum_comm
        rw [this]
    · rw [if_neg hpq]
      exact (congrFun a9 _).trans (h.l p (by have : p.val ≠ q.val := fun hh => hpq (Fin.ext hh); omega))

end Cert.ReferenceIdeal.Ops

end
-- ==== Proof.RefRun.lean ====
module

public import proofs.«01_k».proof.Proof.RefTrip
public import Idealize.ShloMosaic.Lib.Quiescent
public import Idealize.ShloMosaic.Lib.StableHlo.RunHlo

@[expose] public section

set_option maxRecDepth 16384

noncomputable section

/-!
# The reference's run

The eight trips put together: the reference's three results, and that its arguments end unchanged.
-/

namespace Cert.ReferenceIdeal.Ops
open Idealize.ShloMosaic Cert.ReferenceIdeal Cert.ReferenceIdeal.Gen Cert.Spec
open Idealize.ShloMosaic.StableHlo

variable (m : (ℓ : Loc nD τ sig) → Buf (Elt Ideal) ℓ) (c : Dev nD)

/-- The layers of the arguments. -/
def P : ℕ → Layer :=
  layers (fun q e d => (m ((c.tc : Thread nD τ).loc main_arg1) : Vec Ideal S8x256x1024 .f32) (ix3 q e d))
    (fun q e => (m ((c.tc : Thread nD τ).loc main_arg2) : Vec Ideal S8x256 .f32) (ix2 q e))
    (fun q d e => (m ((c.tc : Thread nD τ).loc main_arg3) : Vec Ideal S8x1024x256 .f32) (ix3 q d e))
    (fun q d => (m ((c.tc : Thread nD τ).loc main_arg4) : Vec Ideal S8x1024 .f32) (ix2 q d))
    (fun q j e => Ideal.ofBits .f32 ((m ((c.tc : Thread nD τ).loc main_arg5) : Vec Ideal S8x1024x256 .i32) (ix3 q j e)))

/-- The rows of the arguments. -/
def X : Fin 2048 → Fin 1024 → EReal :=
  rows fun b d t => (m ((c.tc : Thread nD τ).loc main_arg0) : Vec Ideal S2x1024x1024 .f32) (ix3 b d t)

/-- What the first layer finds. -/
theorem entry : Inv (P m c) (X m c) (entryContents Value.preI m c) 0 := by
  have e : entryContents Value.preI m c = after hostOps0 (launchContents m c) := by
    simp only [entryContents, afterL_cons, afterL_nil]
  rw [e]
  constructor
  · intro q x d
    rw [P, layers_at]
    after_reads_at
    rfl
  · intro q x
    rw [P, layers_at]
    after_reads_at
    rfl
  · intro q d x
    rw [P, layers_at]
    after_reads_at
    rfl
  · intro q d
    rw [P, layers_at]
    after_reads_at
    rfl
  · intro q j x
    rw [P, layers_at]
    after_reads_at
    rfl
  · intro b d t
    rw [X, res, rows_row, bR]
    after_reads_at
    rfl
  · intro b d t
    rw [quant, bQ]
    after_reads_at
    exact Ideal.ofBits_zero_f32
  · intro p b t h
    exact absurd h (Nat.not_lt_zero _)
  · intro p h
    exact absurd h (Nat.not_lt_zero _)

/-- What layer `k` finds. -/
theorem inv_at : ∀ k ≤ 8, Inv (P m c) (X m c) (Value.atK m k c) k
  | 0, _ => entry m c
  | k + 1, h => trip (P m c) (X m c) (Value.atK m k c) ⟨k, h⟩ (Value.atK_ctr m c k) (inv_at k (by omega))

/-- A buffer that no operation of a trip writes is unchanged by it. -/
theorem trip_keep (V : Val) (r : Ref sig .tc) (h : r ∉ Value.condOps_W ∧ r ∉ Value.while0Ops0_W ∧ r ∉ Value.while0Ops0_1_W ∧ r ∉ Value.while0Ops0_2_W
    ∧ r ∉ Value.while0Ops0_3_W ∧ r ∉ Value.while0Ops0_4_W ∧ r ∉ Value.while0Ops0_5_W ∧ r ∉ Value.while0Ops0_6_W ∧ r ∉ Value.while0Ops0_7_W
    ∧ r ∉ Value.while0Ops0_8_W ∧ r ∉ Value.while0Ops0_9_W ∧ r ∉ Value.while0Ops0_10_W ∧ r ∉ Value.while0Ops0_11_W ∧ r ∉ Value.while0Ops0_12_W
    ∧ r ∉ Value.while0Ops0_13_W ∧ r ∉ Value.while0Ops0_14_W ∧ r ∉ Value.while0Ops0_15_W) :
    afterL Value.bodyI (after Value.condOps V) (Proc.devRef .tc r) = V (Proc.devRef .tc r) := by
  obtain ⟨h0, h1, h2, h3, h4, h5, h6, h7, h8, h9, h10, h11, h12, h13, h14, h15, h16⟩ := h
  simp only [afterL_cons, afterL_nil]
  rw [after_of_writes_sub _ _ Value.while0Ops0_15_writes h16, after_of_writes_sub _ _ Value.while0Ops0_14_writes h15,
    after_of_writes_sub _ _ Value.while0Ops0_13_writes h14, after_of_writes_sub _ _ Value.while0Ops0_12_writes h13,
    after_of_writes_sub _ _ Value.while0Ops0_11_writes h12, after_of_writes_sub _ _ Value.while0Ops0_10_writes h11,
    after_of_writes_sub _ _ Value.while0Ops0_9_writes h10, after_of_writes_sub _ _ Value.while0Ops0_8_writes h9,
    after_of_writes_sub _ _ Value.while0Ops0_7_writes h8, after_of_writes_sub _ _ Value.while0Ops0_6_writes h7,
    after_of_writes_sub _ _ Value.while0Ops0_5_writes h6, after_of_writes_sub _ _ Value.while0Ops0_4_writes h5,
    after_of_writes_sub _ _ Value.while0Ops0_3_writes h4, after_of_writes_sub _ _ Value.while0Ops0_2_writes h3,
    after_of_writes_sub _ _ Value.while0Ops0_1_writes h2, after_of_writes_sub _ _ Value.while0Ops0_writes h1,
    after_of_writes_sub _ _ Value.condOps_writes h0]

/-- A buffer that nothing writes ends as it began. -/
theorem final_keep (r : Ref sig .tc) (h0 : r ∉ Value.hostOps0_W) (h : r ∉ Value.condOps_W ∧ r ∉ Value.while0Ops0_W ∧ r ∉ Value.while0Ops0_1_W ∧ r ∉ Value.while0Ops0_2_W
    ∧ r ∉ Value.while0Ops0_3_W ∧ r ∉ Value.while0Ops0_4_W ∧ r ∉ Value.while0Ops0_5_W ∧ r ∉ Value.while0Ops0_6_W ∧ r ∉ Value.while0Ops0_7_W
    ∧ r ∉ Value.while0Ops0_8_W ∧ r ∉ Value.while0Ops0_9_W ∧ r ∉ Value.while0Ops0_10_W ∧ r ∉ Value.while0Ops0_11_W ∧ r ∉ Value.while0Ops0_12_W
    ∧ r ∉ Value.while0Ops0_13_W ∧ r ∉ Value.while0Ops0_14_W ∧ r ∉ Value.while0Ops0_15_W) :
    finalContents Value.condOps Value.preI Value.bodyI Value.postI 8 m c (Proc.devRef .tc r) = m ((c.tc : Thread nD τ).loc r) := by
  have hk : ∀ k, Value.atK m k c (Proc.devRef .tc r) = m ((c.tc : Thread nD τ).loc r) := by
    intro k
    induction k with
    | zero =>
      show entryContents Value.preI m c (Proc.devRef .tc r) = _
      simp only [entryContents, afterL_cons, afterL_nil]
      rw [after_of_writes_sub _ _ Value.hostOps0_writes h0]
    | succ k ih => exact (trip_keep (Value.atK m k c) r h).trans ih
  simp only [finalContents, afterL_nil]
  rw [after_of_writes_sub _ _ Value.condOps_writes h.1]
  exact hk 8

variable (g : Dev nD → PrngReg)

/-- The arguments end unchanged, and so does every semaphore, of which there is none. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine θ_run_mono (Value.run_fold m g) fun r h => ⟨fun c => ?_, sem_eq_zero_of_no_sems rfl _⟩
  refine ⟨(h c main_arg0 rfl).trans (final_keep m c _ (by decide) (by decide)), (h c main_arg1 rfl).trans (final_keep m c _ (by decide) (by decide)),
    (h c main_arg2 rfl).trans (final_keep m c _ (by decide) (by decide)), (h c main_arg3 rfl).trans (final_keep m c _ (by decide) (by decide)),
    (h c main_arg4 rfl).trans (final_keep m c _ (by decide) (by decide)), (h c main_arg5 rfl).trans (final_keep m c _ (by decide) (by decide))⟩

/-- The reference's results: the sum of the layers' outputs, the codes, and the losses. -/
theorem results : θ_run (defs (F := Ideal)) (onTc (τ := τ) (main (F := Ideal))) ⟨m, fun _ => 0, g⟩ (fun r => ∀ c : Dev nD,
      (∀ b d t, (r.2.mem ((c.tc : Thread nD τ).loc main_v4_6) : Vec Ideal S2x1024x1024 .f32) (ix3 b d t) = quant (P m c) (X m c (row b t)) 8 d)
      ∧ (∀ (q : Fin 8) b t, (r.2.mem ((c.tc : Thread nD τ).loc main_v4_8) : Vec Ideal S8x2x1024 .i32) (ix3 q b t)
          = BitVec.ofNat 32 (code (P m c q) (code_vec (P m c) (X m c (row b t)) q)).val)
      ∧ (∀ q : Fin 8, (r.2.mem ((c.tc : Thread nD τ).loc main_v4_9) : Vec Ideal S8 .f32) (ix1 q) = loss (P m c) (X m c) q)) := by
  refine θ_run_mono (Value.run_fold m g) fun r h c => ?_
  have hi := inv_at m c 8 le_rfl
  have k (b : Ref sig .tc) (hb : (Proc.devRef .tc b : DevRef τ sig).isScoped = false) (hw : b ∉ Value.condOps_W) :
      r.2.mem ((c.tc : Thread nD τ).loc b) = Value.atK m 8 c (Proc.devRef .tc b) := by
    rw [h c b hb]
    simp only [finalContents, afterL_nil]
    rw [after_of_writes_sub _ _ Value.condOps_writes hw]
  exact ⟨fun b d t => (congrFun (k main_v4_6 rfl (by decide)) _).trans (hi.s b d t),
    fun q b t => (congrFun (k main_v4_8 rfl (by decide)) _).trans (hi.i q b t q.isLt),
    fun q => (congrFun (k main_v4_9 rfl (by decide)) _).trans (hi.l q q.isLt)⟩

end Cert.ReferenceIdeal.Ops

end
-- ==== Proof.Pre.lean ====
module

public import proofs.«01_k».proof.Proof.Rows
public import proofs.«01_k».proof.Proof.ArgMin
public import proofs.«01_k».proof.Pre_finite_args
public import Idealize.ShloMosaic.Lib.Affine

@[expose] public section

noncomputable section

/-!
# What the precondition says

Every number of the arguments is finite: no entry is an infinity, and every word of the codebooks is a finite number's word.
-/

namespace Cert.Pre_finite_args
open Idealize.ShloMosaic Idealize.ShloMosaic.IntOp Cert.Spec

/-- The shape relations the precondition's operations take. -/
instance facts : Facts where
  bcast_S_S2x1024x1024 := by decide
  reducesTo_S2x1024x1024_S_d0_1_2 := by decide
  h_S_ := by decide
  bcast_S_S8x256x1024 := by decide
  reducesTo_S8x256x1024_S_d0_1_2 := by decide
  bcast_S_S8x256 := by decide
  reducesTo_S8x256_S_d0_1 := by decide
  bcast_S_S8x1024x256 := by decide
  reducesTo_S8x1024x256_S_d0_1_2 := by decide
  bcast_S_S8x1024 := by decide
  reducesTo_S8x1024_S_d0_1 := by decide

/-- A conjunction of bits that holds has every bit set. -/
theorem fold_and {ι : Type} (s : Finset ι) (f : ι → BitVec 1) (b : BitVec 1) (h : s.fold IntOp.andi b f = 1#1) : ∀ i ∈ s, f i = 1#1 := by
  classical
  induction s using Finset.induction_on with
  | empty => intro i hi; exact absurd hi (Finset.notMem_empty i)
  | insert a s ha ih =>
    rw [Finset.fold_insert ha] at h
    have h' := andi_eq_one.1 h
    intro i hi
    rcases Finset.mem_insert.1 hi with rfl | hi
    · exact h'.1
    · exact ih h'.2 i hi

/-- A number whose magnitude is below infinity is finite. -/
theorem fin_of_abs (a : EReal) (h : max a (-a) < ⊤) : Fin_ a := by
  induction a with
  | bot => simp at h
  | top => simp at h
  | coe r => exact ⟨r, rfl⟩

/-- An array whose magnitudes all lie below infinity holds finite numbers. -/
theorem all_fin {S : Shape} {axes : List (Fin S.rank)} (a : FVec Ideal S .f32) (hb : S_.BroadcastsInDim S (![] : Fin 0 → Fin S.rank)) (hr : S.ReducesTo axes S_)
    (hS : 0 < S_.numel) (j : S_.Idx)
    (h : Host.reduce IntOp.andi (cmpf .olt (Host.absf a) (broadcastInDim S ![] hb (constant S_ .f32 0x7F800000#32))) (constantI S_ 1 1#1) hr hS j = 1#1) :
    ∀ i, Fin_ (a i) := by
  intro i
  rw [Host.reduce_eq_fold] at h
  have h1 := fold_and _ _ _ h i (Finset.mem_filter.2 ⟨Finset.mem_univ _, Subsingleton.elim _ _⟩)
  have h2 : Ideal.cmp .olt (max (a i) (-(a i))) (Ideal.ofBits .f32 0x7F800000#32) = 1#1 := h1
  rw [ArgMin.top_word] at h2
  apply fin_of_abs
  by_contra hn
  simp [Ideal.cmp, hn] at h2

/-- The precondition: every number is finite. -/
theorem finite (x : FVec Ideal S2x1024x1024 .f32) (W : FVec Ideal S8x256x1024 .f32) (bi : FVec Ideal S8x256 .f32) (Wo : FVec Ideal S8x1024x256 .f32)
    (bo : FVec Ideal S8x1024 .f32) (C : IVec S8x1024x256 32) (h : fn x W bi Wo bo C = fun _ => 1#1) :
    (∀ i, Fin_ (x i)) ∧ (∀ i, Fin_ (W i)) ∧ (∀ i, Fin_ (bi i)) ∧ (∀ i, Fin_ (Wo i)) ∧ (∀ i, Fin_ (bo i)) ∧ ∀ i, Fin_ (Ideal.ofBits .f32 (C i)) := by
  have h0 := congrFun h (Shape.Idx.first Facts.h_S_)
  obtain ⟨h1, hC⟩ := andi_eq_one.1 h0
  obtain ⟨h2, hbo⟩ := andi_eq_one.1 h1
  obtain ⟨h3, hWo⟩ := andi_eq_one.1 h2
  obtain ⟨h4, hbi⟩ := andi_eq_one.1 h3
  obtain ⟨hx, hW⟩ := andi_eq_one.1 h4
  exact ⟨all_fin x _ _ _ _ hx, all_fin W _ _ _ _ hW, all_fin bi _ _ _ _ hbi, all_fin Wo _ _ _ _ hWo, all_fin bo _ _ _ _ hbo, all_fin (bitcastToFloat .f32 C) _ _ _ _ hC⟩

end Cert.Pre_finite_args

end
-- ==== Proof.Results.lean ====
module

public import proofs.«01_k».proof.Defs
public import proofs.«01_k».proof.Proof.Arrays
public import proofs.«01_k».proof.Proof.RefRun
public import proofs.«01_k».proof.Proof.Pre

@[expose] public section

set_option maxRecDepth 16384

noncomputable section

/-!
# The kernel and the reference leave the same results

Both leave the codes and the losses of the same quantiser. The first result is the rows less their last residuals in the one, the
sum of the layers' outputs in the other, and for finite arguments these agree.
-/

namespace Cert.Results
open Idealize.ShloMosaic Idealize.SL.Sem Cert.Spec

/-- What was quantised, as an array: column `t` of batch `b` less its last residual. -/
def quantised (P : ℕ → Layer) (X : Fin 2048 → Fin 1024 → EReal) : Vec Ideal Cert.KernelIdeal.S2x1024x1024 .f32 :=
  fun i => X (row (i 0) (i 2)) (i 1) - res P (X (row (i 0) (i 2))) 8 (i 1)

/-- The codes as an array. -/
def indices (P : ℕ → Layer) (X : Fin 2048 → Fin 1024 → EReal) : Vec Ideal Cert.KernelIdeal.S8x2x1024 .i32 :=
  fun i => BitVec.ofNat 32 (code (P (i 0).val) (code_vec P (X (row (i 1) (i 2))) (i 0).val)).val

/-- The losses as an array. -/
def losses (P : ℕ → Layer) (X : Fin 2048 → Fin 1024 → EReal) : Vec Ideal Cert.KernelIdeal.S8 .f32 := fun i => loss P X (i 0).val

/-- The kernel leaves the three arrays, and its arguments as they were. -/
theorem kernel (m : (g : Loc Cert.KernelIdeal.nD Cert.KernelIdeal.τ Cert.KernelIdeal.sig) → Buf (Elt Ideal) g) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v36) = quantised (Cert.KernelIdeal.Blocks.P m c) (Cert.KernelIdeal.Blocks.X m c)
      ∧ r.2.mem ((c.tc : Thread Cert.KernelIdeal.nD Cert.KernelIdeal.τ).loc Cert.KernelIdeal.main_v37) = indices (Cert.KernelIdeal.Blocks.P m c) (Cert.KernelIdeal.Blocks.X m c)
      ∧ r.2.mem ((c.tc : Thread Cert.KernelIdeal.nD Cert.KernelIdeal.τ).loc Cert.KernelIdeal.main_v38) = losses (Cert.KernelIdeal.Blocks.P m c) (Cert.KernelIdeal.Blocks.X m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  refine (θ_run (Cert.KernelIdeal.defs (F := Ideal)) _ _).mono (fun r h c => ⟨?_, ?_, ?_, h.2 c⟩)
    (θ_run_and (Cert.KernelIdeal.Arrays.results m g) (Cert.KernelIdeal.Gen.unchanged (F := Ideal) m g))
  · funext i
    rw [eq_ix3 i]
    exact (h.1 c).1 (i 0) (i 1) (i 2)
  · funext i
    rw [eq_ix3 i]
    exact (h.1 c).2.1 (i 0) (i 1) (i 2)
  · funext i
    rw [eq_ix1 i]
    exact (h.1 c).2.2 (i 0)

/-- The reference leaves the three arrays for finite layers and rows, and its arguments as they were. -/
theorem reference (m : (g : Loc Cert.ReferenceIdeal.nD Cert.ReferenceIdeal.τ Cert.ReferenceIdeal.sig) → Buf (Elt Ideal) g) (g : Dev Cert.ReferenceIdeal.nD → PrngReg)
    (P : Dev Cert.ReferenceIdeal.nD → ℕ → Layer) (X : Dev Cert.ReferenceIdeal.nD → Fin 2048 → Fin 1024 → EReal)
    (hP : ∀ c, Cert.ReferenceIdeal.Ops.P m c = P c) (hX : ∀ c, Cert.ReferenceIdeal.Ops.X m c = X c)
    (fP : ∀ c q, (P c q).Finite) (fX : ∀ c n d, Fin_ (X c n d)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v4_6) = quantised (P c) (X c)
      ∧ r.2.mem ((c.tc : Thread Cert.ReferenceIdeal.nD Cert.ReferenceIdeal.τ).loc Cert.ReferenceIdeal.main_v4_8) = indices (P c) (X c)
      ∧ r.2.mem ((c.tc : Thread Cert.ReferenceIdeal.nD Cert.ReferenceIdeal.τ).loc Cert.ReferenceIdeal.main_v4_9) = losses (P c) (X c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) := by
  refine (θ_run (Cert.ReferenceIdeal.defs (F := Ideal)) _ _).mono (fun r h c => ⟨?_, ?_, ?_, h.2.1 c⟩)
    (θ_run_and (Cert.ReferenceIdeal.Ops.results m g) (Cert.ReferenceIdeal.Ops.frame m g))
  · have e := (h.1 c).1
    rw [hP, hX] at e
    funext i
    rw [eq_ix3 i]
    exact (e (i 0) (i 1) (i 2)).trans (quant_eq (fP c) (fX c _) 8 _)
  · have e := (h.1 c).2.1
    rw [hP, hX] at e
    funext i
    rw [eq_ix3 i]
    exact e (i 0) (i 1) (i 2)
  · have e := (h.1 c).2.2
    rw [hP, hX] at e
    funext i
    rw [eq_ix1 i]
    exact e (i 0)

/-- Finite arguments make finite layers. -/
theorem layers_finite (m : (g : Loc Cert.KernelIdeal.nD Cert.KernelIdeal.τ Cert.KernelIdeal.sig) → Buf (Elt Ideal) g) (h : Cert.Pre_KernelIdeal_finite_args m)
    (c : Dev Cert.KernelIdeal.nD) (q : ℕ) : (Cert.KernelIdeal.Blocks.P m c q).Finite := by
  obtain ⟨_, hW, hbi, hWo, hbo, hC⟩ := Cert.Pre_finite_args.finite _ _ _ _ _ _ (h c)
  exact ⟨fun _ _ => hW _, fun _ => hbi _, fun _ _ => hWo _, fun _ => hbo _, fun _ _ => hC _⟩

/-- Finite arguments make finite rows. -/
theorem rows_finite (m : (g : Loc Cert.KernelIdeal.nD Cert.KernelIdeal.τ Cert.KernelIdeal.sig) → Buf (Elt Ideal) g) (h : Cert.Pre_KernelIdeal_finite_args m)
    (c : Dev Cert.KernelIdeal.nD) (n : Fin 2048) (d : Fin 1024) : Fin_ (Cert.KernelIdeal.Blocks.X m c n d) :=
  (Cert.Pre_finite_args.finite _ _ _ _ _ _ (h c)).1 _

end Cert.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import Idealize.ShloMosaic.Adequacy
public import Idealize.ShloMosaic.Init

@[expose] public section

noncomputable section

namespace Cert.Proof

open Idealize.ShloMosaic Idealize.SL.Sem Cert.Spec

/-- The kernel and the reference end with equal results for finite arguments. -/
theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.facts) := by
  intro m g m' g' hpre hargs
  refine ⟨fun c => Cert.Results.quantised (Cert.KernelIdeal.Blocks.P m c) (Cert.KernelIdeal.Blocks.X m c),
    fun c => Cert.Results.indices (Cert.KernelIdeal.Blocks.P m c) (Cert.KernelIdeal.Blocks.X m c),
    fun c => Cert.Results.losses (Cert.KernelIdeal.Blocks.P m c) (Cert.KernelIdeal.Blocks.X m c),
    Cert.Results.kernel m g,
    Cert.Results.reference m' g' (fun c => Cert.KernelIdeal.Blocks.P m c) (fun c => Cert.KernelIdeal.Blocks.X m c) (fun c => ?_) (fun c => ?_)
      (Cert.Results.layers_finite m hpre) (Cert.Results.rows_finite m hpre)⟩
  · obtain ⟨_, h1, h2, h3, h4, h5⟩ := hargs c
    unfold Cert.ReferenceIdeal.Ops.P
    rw [h1, h2, h3, h4, h5]
    rfl
  · obtain ⟨h0, _⟩ := hargs c
    unfold Cert.ReferenceIdeal.Ops.X
    rw [h0]
    rfl

/-- Every claim of the certificate. -/
theorem claim : Cert.Claim :=
  ⟨Cert.Kernel.Gen.facts, Cert.KernelIdeal.Gen.facts, Cert.ReferenceIdeal.Gen.facts, Cert.Pre_finite_args.facts,
    fun m g _ => Cert.Kernel.Gen.frame (F := Bits) m g,
    fun m g _ => Cert.KernelIdeal.Gen.frame (F := Ideal) m g,
    fun m g _ => Cert.KernelIdeal.Gen.frame (F := Ideal) m g,
    fun m g _ => Cert.ReferenceIdeal.Ops.frame m g,
    fun m g _ => Cert.ReferenceIdeal.Ops.frame m g,
    trivial,
    algebraic⟩

end Cert.Proof

end
